-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "log2_e" .f32 0x3FB8AA3B#32 (((Real.log 2)⁻¹ : ℝ) : EReal)
  ∧ IdealRules.named_const.Statement Cert.KernelIdeal.κ "log2_range" .f32 0x416CEAED#32 (((Real.log 28672) * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)) (v3 : (c : Dev Cert.KernelIdeal.nD) → Buf (Elt Ideal) ((c.tc : Thread Cert.KernelIdeal.nD Cert.KernelIdeal.τ).loc Cert.KernelIdeal.main_v11_3)) (v4 : (c : Dev Cert.KernelIdeal.nD) → Buf (Elt Ideal) ((c.tc : Thread Cert.KernelIdeal.nD Cert.KernelIdeal.τ).loc Cert.KernelIdeal.main_v11_4)) (v5 : (c : Dev Cert.KernelIdeal.nD) → Buf (Elt Ideal) ((c.tc : Thread Cert.KernelIdeal.nD Cert.KernelIdeal.τ).loc Cert.KernelIdeal.main_v11_5)) (v6 : (c : Dev Cert.KernelIdeal.nD) → Buf (Elt Ideal) ((c.tc : Thread Cert.KernelIdeal.nD Cert.KernelIdeal.τ).loc Cert.KernelIdeal.main_v11_6)) (v7 : (c : Dev Cert.KernelIdeal.nD) → Buf (Elt Ideal) ((c.tc : Thread Cert.KernelIdeal.nD Cert.KernelIdeal.τ).loc Cert.KernelIdeal.main_v11_7)) (v8 : (c : Dev Cert.KernelIdeal.nD) → Buf (Elt Ideal) ((c.tc : Thread Cert.KernelIdeal.nD Cert.KernelIdeal.τ).loc Cert.KernelIdeal.main_v11_8)) (v9 : (c : Dev Cert.KernelIdeal.nD) → Buf (Elt Ideal) ((c.tc : Thread Cert.KernelIdeal.nD Cert.KernelIdeal.τ).loc Cert.KernelIdeal.main_v11_9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_v11_3) = v3 c
          ∧ r.2.mem ((c.tc : Thread Cert.KernelIdeal.nD Cert.KernelIdeal.τ).loc Cert.KernelIdeal.main_v11_4) = v4 c
          ∧ r.2.mem ((c.tc : Thread Cert.KernelIdeal.nD Cert.KernelIdeal.τ).loc Cert.KernelIdeal.main_v11_5) = v5 c
          ∧ r.2.mem ((c.tc : Thread Cert.KernelIdeal.nD Cert.KernelIdeal.τ).loc Cert.KernelIdeal.main_v11_6) = v6 c
          ∧ r.2.mem ((c.tc : Thread Cert.KernelIdeal.nD Cert.KernelIdeal.τ).loc Cert.KernelIdeal.main_v11_7) = v7 c
          ∧ r.2.mem ((c.tc : Thread Cert.KernelIdeal.nD Cert.KernelIdeal.τ).loc Cert.KernelIdeal.main_v11_8) = v8 c
          ∧ r.2.mem ((c.tc : Thread Cert.KernelIdeal.nD Cert.KernelIdeal.τ).loc Cert.KernelIdeal.main_v11_9) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13_0) = v0 c
          ∧ r.2.mem ((c.tc : Thread Cert.ReferenceIdeal.nD Cert.ReferenceIdeal.τ).loc Cert.ReferenceIdeal.main_v13_1) = v1 c
          ∧ r.2.mem ((c.tc : Thread Cert.ReferenceIdeal.nD Cert.ReferenceIdeal.τ).loc Cert.ReferenceIdeal.main_v13_2) = v2 c
          ∧ r.2.mem ((c.tc : Thread Cert.ReferenceIdeal.nD Cert.ReferenceIdeal.τ).loc Cert.ReferenceIdeal.main_v13_3) = v3 c
          ∧ r.2.mem ((c.tc : Thread Cert.ReferenceIdeal.nD Cert.ReferenceIdeal.τ).loc Cert.ReferenceIdeal.main_v13_4) = v4 c
          ∧ r.2.mem ((c.tc : Thread Cert.ReferenceIdeal.nD Cert.ReferenceIdeal.τ).loc Cert.ReferenceIdeal.main_v13_5) = v5 c
          ∧ r.2.mem ((c.tc : Thread Cert.ReferenceIdeal.nD Cert.ReferenceIdeal.τ).loc Cert.ReferenceIdeal.main_v13_6) = v6 c
          ∧ r.2.mem ((c.tc : Thread Cert.ReferenceIdeal.nD Cert.ReferenceIdeal.τ).loc Cert.ReferenceIdeal.main_v13_7) = v7 c
          ∧ r.2.mem ((c.tc : Thread Cert.ReferenceIdeal.nD Cert.ReferenceIdeal.τ).loc Cert.ReferenceIdeal.main_v13_8) = v8 c
          ∧ r.2.mem ((c.tc : Thread Cert.ReferenceIdeal.nD Cert.ReferenceIdeal.τ).loc Cert.ReferenceIdeal.main_v13_9) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x3584x8192 : Shape := ⟨3, ![2, 3584, 8192]⟩
abbrev S2x3584x64 : Shape := ⟨3, ![2, 3584, 64]⟩
abbrev S2 : Shape := ⟨1, ![2]⟩
abbrev S1 : Shape := ⟨1, ![1]⟩
abbrev S_ : Shape := ⟨0, ![]⟩
abbrev S7 : Shape := ⟨1, ![7]⟩
abbrev S1x32x8192 : Shape := ⟨3, ![1, 32, 8192]⟩
abbrev S1x32x64 : Shape := ⟨3, ![1, 32, 64]⟩
abbrev S32x64 : Shape := ⟨2, ![32, 64]⟩
abbrev S1x32x128 : Shape := ⟨3, ![1, 32, 128]⟩
abbrev S32x128 : Shape := ⟨2, ![32, 128]⟩
abbrev S1x32x1 : Shape := ⟨3, ![1, 32, 1]⟩
abbrev S32x1 : Shape := ⟨2, ![32, 1]⟩
abbrev S32 : Shape := ⟨1, ![32]⟩

abbrev nBuf : Space → Nat
  | .hbm => 39
  | .vmem => 36
  | .smem => 1
  | _ => 0

abbrev bufTy : (tb : Table) → Fin (tcTables nBuf tb) → BufTy
  | .hbm, ⟨0, _⟩ => ⟨S2x3584x8192, .f32⟩
  | .hbm, ⟨1, _⟩ => ⟨S2x3584x8192, .bf16⟩
  | .hbm, ⟨2, _⟩ => ⟨S2x3584x8192, .fp8e4m3⟩
  | .hbm, ⟨3, _⟩ => ⟨S2x3584x64, .f32⟩
  | .hbm, ⟨4, _⟩ => ⟨S2x3584x64, .f32⟩
  | .hbm, ⟨5, _⟩ => ⟨S2x3584x8192, .fp8e4m3⟩
  | .hbm, ⟨6, _⟩ => ⟨S2x3584x64, .f32⟩
  | .hbm, ⟨7, _⟩ => ⟨S2x3584x64, .f32⟩
  | .hbm, ⟨8, _⟩ => ⟨S2, .f32⟩
  | .hbm, ⟨9, _⟩ => ⟨S2, .f32⟩
  | .hbm, ⟨10, _⟩ => ⟨S1, .f32⟩
  | .hbm, ⟨11, _⟩ => ⟨S1, .i32⟩
  | .hbm, ⟨12, _⟩ => ⟨S_, .i32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1, .f32⟩
  | .hbm, ⟨27, _⟩ => ⟨S1, .f32⟩
  | .hbm, ⟨28, _⟩ => ⟨S7, .f32⟩
  | .hbm, ⟨29, _⟩ => ⟨S2x3584x8192, .f32⟩
  | .hbm, ⟨30, _⟩ => ⟨S2x3584x8192, .f32⟩
  | .hbm, ⟨31, _⟩ => ⟨S2x3584x8192, .fp8e4m3⟩
  | .hbm, ⟨32, _⟩ => ⟨S2x3584x64, .f32⟩
  | .hbm, ⟨33, _⟩ => ⟨S2x3584x64, .f32⟩
  | .hbm, ⟨34, _⟩ => ⟨S2x3584x8192, .fp8e4m3⟩
  | .hbm, ⟨35, _⟩ => ⟨S2x3584x64, .f32⟩
  | .hbm, ⟨36, _⟩ => ⟨S2x3584x64, .f32⟩
  | .hbm, ⟨37, _⟩ => ⟨S2x3584x8192, .fp8e4m3⟩
  | .hbm, ⟨38, _⟩ => ⟨S2x3584x64, .f32⟩
  | .local _ .vmem, ⟨0, _⟩ => ⟨S1x32x8192, .f32⟩
  | .local _ .vmem, ⟨1, _⟩ => ⟨S1x32x8192, .f32⟩
  | .local _ .vmem, ⟨2, _⟩ => ⟨S1x32x8192, .bf16⟩
  | .local _ .vmem, ⟨3, _⟩ => ⟨S1x32x8192, .bf16⟩
  | .local _ .vmem, ⟨4, _⟩ => ⟨S1x32x8192, .fp8e4m3⟩
  | .local _ .vmem, ⟨5, _⟩ => ⟨S1x32x8192, .fp8e4m3⟩
  | .local _ .vmem, ⟨6, _⟩ => ⟨S1x32x64, .f32⟩
  | .local _ .vmem, ⟨7, _⟩ => ⟨S1x32x64, .f32⟩
  | .local _ .vmem, ⟨8, _⟩ => ⟨S1x32x64, .f32⟩
  | .local _ .vmem, ⟨9, _⟩ => ⟨S1x32x64, .f32⟩
  | .local _ .vmem, ⟨10, _⟩ => ⟨S1x32x8192, .fp8e4m3⟩
  | .local _ .vmem, ⟨11, _⟩ => ⟨S1x32x8192, .fp8e4m3⟩
  | .local _ .vmem, ⟨12, _⟩ => ⟨S1x32x64, .f32⟩
  | .local _ .vmem, ⟨13, _⟩ => ⟨S1x32x64, .f32⟩
  | .local _ .vmem, ⟨14, _⟩ => ⟨S1x32x64, .f32⟩
  | .local _ .vmem, ⟨15, _⟩ => ⟨S1x32x64, .f32⟩
  | .local _ .vmem, ⟨16, _⟩ => ⟨S1x32x8192, .f32⟩
  | .local _ .vmem, ⟨17, _⟩ => ⟨S1x32x8192, .f32⟩
  | .local _ .vmem, ⟨18, _⟩ => ⟨S1x32x8192, .f32⟩
  | .local _ .vmem, ⟨19, _⟩ => ⟨S1x32x8192, .f32⟩
  | .local _ .vmem, ⟨20, _⟩ => ⟨S1x32x8192, .fp8e4m3⟩
  | .local _ .vmem, ⟨21, _⟩ => ⟨S1x32x8192, .fp8e4m3⟩
  | .local _ .vmem, ⟨22, _⟩ => ⟨S1x32x64, .f32⟩
  | .local _ .vmem, ⟨23, _⟩ => ⟨S1x32x64, .f32⟩
  | .local _ .vmem, ⟨24, _⟩ => ⟨S1x32x64, .f32⟩
  | .local _ .vmem, ⟨25, _⟩ => ⟨S1x32x64, .f32⟩
  | .local _ .vmem, ⟨26, _⟩ => ⟨S1x32x8192, .fp8e4m3⟩
  | .local _ .vmem, ⟨27, _⟩ => ⟨S1x32x8192, .fp8e4m3⟩
  | .local _ .vmem, ⟨28, _⟩ => ⟨S1x32x64, .f32⟩
  | .local _ .vmem, ⟨29, _⟩ => ⟨S1x32x64, .f32⟩
  | .local _ .vmem, ⟨30, _⟩ => ⟨S1x32x64, .f32⟩
  | .local _ .vmem, ⟨31, _⟩ => ⟨S1x32x64, .f32⟩
  | .local _ .vmem, ⟨32, _⟩ => ⟨S1x32x8192, .fp8e4m3⟩
  | .local _ .vmem, ⟨33, _⟩ => ⟨S1x32x8192, .fp8e4m3⟩
  | .local _ .vmem, ⟨34, _⟩ => ⟨S1x32x64, .f32⟩
  | .local _ .vmem, ⟨35, _⟩ => ⟨S1x32x64, .f32⟩
  | .local _ .smem, ⟨0, _⟩ => ⟨S7, .f32⟩
  | _, _ => ⟨S2x3584x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .smem, ⟨0, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_cst_3 : Ref sig .tc := ⟨.hbm, 22, rfl⟩
abbrev main_v6 : Ref sig .tc := ⟨.hbm, 23, rfl⟩
abbrev main_cst_4 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11_0 : Ref sig .tc := ⟨.hbm, 29, rfl⟩
abbrev main_v11_1 : Ref sig .tc := ⟨.hbm, 30, rfl⟩
abbrev main_v11_2 : Ref sig .tc := ⟨.hbm, 31, rfl⟩
abbrev main_v11_3 : Ref sig .tc := ⟨.hbm, 32, rfl⟩
abbrev main_v11_4 : Ref sig .tc := ⟨.hbm, 33, rfl⟩
abbrev main_v11_5 : Ref sig .tc := ⟨.hbm, 34, rfl⟩
abbrev main_v11_6 : Ref sig .tc := ⟨.hbm, 35, rfl⟩
abbrev main_v11_7 : Ref sig .tc := ⟨.hbm, 36, rfl⟩
abbrev main_v11_8 : Ref sig .tc := ⟨.hbm, 37, rfl⟩
abbrev main_v11_9 : Ref sig .tc := ⟨.hbm, 38, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36

abbrev nD : Nat := 1
abbrev τ : Topo := Topo.v7x

variable {F : FTy → Type} [FloatOps F]

abbrev grid0 : Pipeline.Grid := ⟨2, ![2, 112], ![false, false]⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let c2_i32 : BitVec 32 := 2#32
  let arg0 : BitVec 32 := BitVec.ofNat 32 (i 0).val
  let v2 : BitVec 32 := Scalar.addi c2_i32 arg0
  let v3 : Index := Scalar.indexCast v2
  ![v3.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S7 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x32x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x8192 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x8192 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x32x8192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x32x8192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x32x8192 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x32x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x32x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x32x8192 .fp8e4m3 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x32x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x32x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x32x8192 .fp8e4m3 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x32x64 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== KernelIdeal.lean ====
variable {F : FTy → Type} [FloatOps F] [Named F]
def κ : String → Option EReal := fun
  | "log2_e" => some (((Real.log 2)⁻¹ : ℝ) : EReal)
  | "log2_range" => some (((Real.log 28672) * (Real.log 2)⁻¹ : ℝ) : EReal)
  | _ => none
-- ==== ReferenceIdeal.lean ====
abbrev S2x3584x8192 : Shape := ⟨3, ![2, 3584, 8192]⟩
abbrev S2x3584x64 : Shape := ⟨3, ![2, 3584, 64]⟩
abbrev S2 : Shape := ⟨1, ![2]⟩
abbrev S1 : Shape := ⟨1, ![1]⟩
abbrev S_ : Shape := ⟨0, ![]⟩
abbrev S2x1x1x1 : Shape := ⟨4, ![2, 1, 1, 1]⟩
abbrev S1x1x1x1 : Shape := ⟨4, ![1, 1, 1, 1]⟩
abbrev S2x3584x64x128 : Shape := ⟨4, ![2, 3584, 64, 128]⟩
abbrev S2x3584x64x1 : Shape := ⟨4, ![2, 3584, 64, 1]⟩

abbrev nBuf : Space → Nat
  | .hbm => 41
  | .vmem => 23
  | .smem => 0
  | _ => 0

abbrev bufTy : (tb : Table) → Fin (tcTables nBuf tb) → BufTy
  | .hbm, ⟨0, _⟩ => ⟨S2x3584x8192, .f32⟩
  | .hbm, ⟨1, _⟩ => ⟨S2x3584x8192, .bf16⟩
  | .hbm, ⟨2, _⟩ => ⟨S2x3584x8192, .fp8e4m3⟩
  | .hbm, ⟨3, _⟩ => ⟨S2x3584x64, .f32⟩
  | .hbm, ⟨4, _⟩ => ⟨S2x3584x64, .f32⟩
  | .hbm, ⟨5, _⟩ => ⟨S2x3584x8192, .fp8e4m3⟩
  | .hbm, ⟨6, _⟩ => ⟨S2x3584x64, .f32⟩
  | .hbm, ⟨7, _⟩ => ⟨S2x3584x64, .f32⟩
  | .hbm, ⟨8, _⟩ => ⟨S2, .f32⟩
  | .hbm, ⟨9, _⟩ => ⟨S2, .f32⟩
  | .hbm, ⟨10, _⟩ => ⟨S1, .f32⟩
  | .hbm, ⟨11, _⟩ => ⟨S1, .i32⟩
  | .hbm, ⟨12, _⟩ => ⟨S_, .i32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S2x1x1x1, .f32⟩
  | .hbm, ⟨27, _⟩ => ⟨S2x1x1x1, .f32⟩
  | .hbm, ⟨28, _⟩ => ⟨S1x1x1x1, .f32⟩
  | .hbm, ⟨29, _⟩ => ⟨S1x1x1x1, .f32⟩
  | .hbm, ⟨30, _⟩ => ⟨S1x1x1x1, .f32⟩
  | .hbm, ⟨31, _⟩ => ⟨S2x3584x8192, .f32⟩
  | .hbm, ⟨32, _⟩ => ⟨S2x3584x8192, .f32⟩
  | .hbm, ⟨33, _⟩ => ⟨S2x3584x8192, .fp8e4m3⟩
  | .hbm, ⟨34, _⟩ => ⟨S2x3584x64, .f32⟩
  | .hbm, ⟨35, _⟩ => ⟨S2x3584x64, .f32⟩
  | .hbm, ⟨36, _⟩ => ⟨S2x3584x8192, .fp8e4m3⟩
  | .hbm, ⟨37, _⟩ => ⟨S2x3584x64, .f32⟩
  | .hbm, ⟨38, _⟩ => ⟨S2x3584x64, .f32⟩
  | .hbm, ⟨39, _⟩ => ⟨S2x3584x8192, .fp8e4m3⟩
  | .hbm, ⟨40, _⟩ => ⟨S2x3584x64, .f32⟩
  | .local _ .vmem, ⟨0, _⟩ => ⟨S2x3584x8192, .f32⟩
  | .local _ .vmem, ⟨1, _⟩ => ⟨S2x3584x8192, .bf16⟩
  | .local _ .vmem, ⟨2, _⟩ => ⟨S2x3584x8192, .fp8e4m3⟩
  | .local _ .vmem, ⟨3, _⟩ => ⟨S2x3584x64, .f32⟩
  | .local _ .vmem, ⟨4, _⟩ => ⟨S2x3584x64, .f32⟩
  | .local _ .vmem, ⟨5, _⟩ => ⟨S2x3584x8192, .fp8e4m3⟩
  | .local _ .vmem, ⟨6, _⟩ => ⟨S2x3584x64, .f32⟩
  | .local _ .vmem, ⟨7, _⟩ => ⟨S2x3584x64, .f32⟩
  | .local _ .vmem, ⟨8, _⟩ => ⟨S2x1x1x1, .f32⟩
  | .local _ .vmem, ⟨9, _⟩ => ⟨S2x1x1x1, .f32⟩
  | .local _ .vmem, ⟨10, _⟩ => ⟨S1x1x1x1, .f32⟩
  | .local _ .vmem, ⟨11, _⟩ => ⟨S1x1x1x1, .f32⟩
  | .local _ .vmem, ⟨12, _⟩ => ⟨S1x1x1x1, .f32⟩
  | .local _ .vmem, ⟨13, _⟩ => ⟨S2x3584x8192, .f32⟩
  | .local _ .vmem, ⟨14, _⟩ => ⟨S2x3584x8192, .f32⟩
  | .local _ .vmem, ⟨15, _⟩ => ⟨S2x3584x8192, .fp8e4m3⟩
  | .local _ .vmem, ⟨16, _⟩ => ⟨S2x3584x64, .f32⟩
  | .local _ .vmem, ⟨17, _⟩ => ⟨S2x3584x64, .f32⟩
  | .local _ .vmem, ⟨18, _⟩ => ⟨S2x3584x8192, .fp8e4m3⟩
  | .local _ .vmem, ⟨19, _⟩ => ⟨S2x3584x64, .f32⟩
  | .local _ .vmem, ⟨20, _⟩ => ⟨S2x3584x64, .f32⟩
  | .local _ .vmem, ⟨21, _⟩ => ⟨S2x3584x8192, .fp8e4m3⟩
  | .local _ .vmem, ⟨22, _⟩ => ⟨S2x3584x64, .f32⟩
  | _, _ => ⟨S2x3584x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_cst_3 : Ref sig .tc := ⟨.hbm, 22, rfl⟩
abbrev main_v6 : Ref sig .tc := ⟨.hbm, 23, rfl⟩
abbrev main_cst_4 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13_0 : Ref sig .tc := ⟨.hbm, 31, rfl⟩
abbrev main_v13_1 : Ref sig .tc := ⟨.hbm, 32, rfl⟩
abbrev main_v13_2 : Ref sig .tc := ⟨.hbm, 33, rfl⟩
abbrev main_v13_3 : Ref sig .tc := ⟨.hbm, 34, rfl⟩
abbrev main_v13_4 : Ref sig .tc := ⟨.hbm, 35, rfl⟩
abbrev main_v13_5 : Ref sig .tc := ⟨.hbm, 36, rfl⟩
abbrev main_v13_6 : Ref sig .tc := ⟨.hbm, 37, rfl⟩
abbrev main_v13_7 : Ref sig .tc := ⟨.hbm, 38, rfl⟩
abbrev main_v13_8 : Ref sig .tc := ⟨.hbm, 39, rfl⟩
abbrev main_v13_9 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22

abbrev nD : Nat := 1
abbrev τ : Topo := Topo.v7x

variable {F : FTy → Type} [FloatOps F] [Named F]

def κ : String → Option EReal := fun
  | "ln_range" => some ((Real.log 28672 : ℝ) : EReal)
  | "log2_e" => some (((Real.log 2)⁻¹ : ℝ) : EReal)
  | _ => none

abbrev grid0 : Pipeline.Grid := .none

abbrev stage0_0 : Fin 1 → Memref sig .tc .vmem S2x3584x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x3584x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x3584x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x3584x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x3584x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x3584x8192 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x3584x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x3584x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1x1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1x1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1x1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1x1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1x1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x3584x8192 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x3584x8192 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x3584x8192 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x3584x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x3584x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x3584x8192 .fp8e4m3 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x3584x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x3584x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x3584x8192 .fp8e4m3 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2x3584x64 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
-- ==== Proof.Group.lean ====
/-
  What the kernel computes for one group of 128 columns, as functions of the tiles it loads; and what one
  grid point stores, output by output: 64 equal computations, one per group. For an array output these are
  64 tiles side by side, for a statistics output the 64 columns set one after another into a block of zeros.
-/
module

public import proofs.«01_k».proof.Proof.Gen.KernelIdeal.Frame
public import Idealize.ShloMosaic.Lib.WritesUnit

@[expose] public section

set_option maxRecDepth 16384

noncomputable section

namespace Cert.KernelIdeal.Grp

open Cert.KernelIdeal Cert.KernelIdeal.Gen Idealize.ShloMosaic Idealize.ShloMosaic.TcCoe Idealize.ShloMosaic.Tactic

variable {F : FTy → Type} [FloatOps F] [Named F]

/-! ## One group -/

/-- The new first moment. -/
def mom (c : Vec F S1x32x128 .fp8e4m3) (s k : Vec F S1x32x1 .f32) (g : Vec F S1x32x128 .bf16) : FVec F S32x128 .f32 :=
  k0_pay6 (k0_pay4 c s k) g

/-- The new second moment. -/
def vel (c : Vec F S1x32x128 .fp8e4m3) (s k : Vec F S1x32x1 .f32) (g : Vec F S1x32x128 .bf16) : FVec F S32x128 .f32 :=
  k0_pay7 c s k g

/-- The stretching exponent of each row. -/
def qk (x : FVec F S32x128 .f32) : FVec F S32x1 .f32 :=
  k0_pay19 (k0_pay16 x) (k0_pay17 x) (k0_pay18 x) (Scalar.ofBits .f32 0x3F800000#32)

/-- The scale of each row. -/
def qs (x : FVec F S32x128 .f32) : FVec F S32x1 .f32 := k0_pay20 (k0_pay14 x)

/-- The codes of the rows. -/
def qc (x : FVec F S32x128 .f32) : FVec F S1x32x128 .fp8e4m3 :=
  k0_pay21 x (k0_pay13 x) (k0_pay14 x) (k0_pay16 x) (k0_pay17 x) (k0_pay18 x) (Scalar.ofBits .f32 0x3F800000#32)

/-- The power-of-two scale of each weight row. -/
def ws (x : FVec F S32x128 .f32) : FVec F S32x1 .f32 := k0_pay33 (k0_pay29 x) (k0_pay30 x)

/-- The codes of the weight rows. -/
def wc (x : FVec F S32x128 .f32) : FVec F S1x32x128 .fp8e4m3 := k0_pay34 x (k0_pay29 x) (k0_pay30 x)

/-- The columns `f 0, …, f (j - 1)` set one after another into a block of zeros. -/
def stat (f : Fin 64 → FVec F S32x1 .f32) : (j : ℕ) → j ≤ 64 → FVec F S32x64 .f32
  | 0, _ => k0_pay3
  | j + 1, h => select (cmpi .eq (iota .tc S32x64 32 [1] iota_S32x64_d1_w32) (broadcast S32x64 (BitVec.ofNat 32 j)))
      (broadcastTo S32x64 (shapeCast S32x1 (f ⟨j, h⟩) shapeCasts_S32x1_S32x1) broadcasts_S32x1_S32x64)
      (stat f j (Nat.le_of_succ_le h))

/-! ## The tiles of a group -/

theorem inbB (n : Fin 64) (a : Fin 3) : (![0, 0, 128 * n.val] : Fin 3 → ℕ) a + S1x32x128.size a ≤ S1x32x8192.size a := by
  have := n.isLt
  match a with
  | ⟨0, _⟩ => show 0 + 1 ≤ 1; omega
  | ⟨1, _⟩ => show 0 + 32 ≤ 32; omega
  | ⟨2, _⟩ => show 128 * n.val + 128 ≤ 8192; omega

theorem inbS (n : Fin 64) (a : Fin 3) : (![0, 0, n.val] : Fin 3 → ℕ) a + S1x32x1.size a ≤ S1x32x64.size a := by
  have := n.isLt
  match a with
  | ⟨0, _⟩ => show 0 + 1 ≤ 1; omega
  | ⟨1, _⟩ => show 0 + 32 ≤ 32; omega
  | ⟨2, _⟩ => show n.val + 1 ≤ 64; omega

/-- The 128 columns of group `n`. -/
def big {e : EltTy} (a : Memref sig .tc .vmem S1x32x8192 e) (ha : a.IsWhole) (x : Vec F S1x32x8192 e) (n : Fin 64) : Vec F S1x32x128 e :=
  View.readAt (Elt F) a.view (Rect.unit (s := S1x32x8192) ![0, 0, 128 * n.val] S1x32x128.size (inbB n)).toLoadRect (ha.unread x)

/-- Column `n` of the statistics. -/
def small {e : EltTy} (a : Memref sig .tc .vmem S1x32x64 e) (ha : a.IsWhole) (x : Vec F S1x32x64 e) (n : Fin 64) : Vec F S1x32x1 e :=
  View.readAt (Elt F) a.view (Rect.unit (s := S1x32x64) ![0, 0, n.val] S1x32x1.size (inbS n)).toLoadRect (ha.unread x)

/-- The element of the scalars at an offset. -/
def scal (a : Memref sig .tc .smem S7 .f32) (ha : a.IsWhole) (x : Vec F S7 .f32) (off : Fin 1 → ℕ)
    (inb : ∀ i, off i + S1.size i ≤ S7.size i) : Elt F .f32 :=
  View.readAt (Elt F) a.view (Rect.unit (s := S7) off S1.size inb).toLoadRect (ha.unread x) (Shape.Idx.first (by change 0 < S1.numel; decide))

/-! ## What a grid point stores -/

variable (c : Dev nD) (i : grid0.Coords)
  (arg2 : Memref sig .tc .smem S7 .f32) (harg2 : arg2.IsWhole)
  (arg3 : Memref sig .tc .vmem S1x32x8192 .f32) (harg3 : arg3.IsWhole)
  (arg4 : Memref sig .tc .vmem S1x32x8192 .bf16) (harg4 : arg4.IsWhole)
  (arg5 : Memref sig .tc .vmem S1x32x8192 .fp8e4m3) (harg5 : arg5.IsWhole)
  (arg6 : Memref sig .tc .vmem S1x32x64 .f32) (harg6 : arg6.IsWhole)
  (arg7 : Memref sig .tc .vmem S1x32x64 .f32) (harg7 : arg7.IsWhole)
  (arg8 : Memref sig .tc .vmem S1x32x8192 .fp8e4m3) (harg8 : arg8.IsWhole)
  (arg9 : Memref sig .tc .vmem S1x32x64 .f32) (harg9 : arg9.IsWhole)
  (arg10 : Memref sig .tc .vmem S1x32x64 .f32) (harg10 : arg10.IsWhole)
  (arg11 : Memref sig .tc .vmem S1x32x8192 .f32) (harg11 : arg11.IsWhole)
  (arg12 : Memref sig .tc .vmem S1x32x8192 .f32) (harg12 : arg12.IsWhole)
  (arg13 : Memref sig .tc .vmem S1x32x8192 .fp8e4m3) (harg13 : arg13.IsWhole)
  (arg14 : Memref sig .tc .vmem S1x32x64 .f32) (harg14 : arg14.IsWhole)
  (arg15 : Memref sig .tc .vmem S1x32x64 .f32) (harg15 : arg15.IsWhole)
  (arg16 : Memref sig .tc .vmem S1x32x8192 .fp8e4m3) (harg16 : arg16.IsWhole)
  (arg17 : Memref sig .tc .vmem S1x32x64 .f32) (harg17 : arg17.IsWhole)
  (arg18 : Memref sig .tc .vmem S1x32x64 .f32) (harg18 : arg18.IsWhole)
  (arg19 : Memref sig .tc .vmem S1x32x8192 .fp8e4m3) (harg19 : arg19.IsWhole)
  (arg20 : Memref sig .tc .vmem S1x32x64 .f32) (harg20 : arg20.IsWhole)
    (x0 : Vec F S7 .f32) (x1 : Vec F S1x32x8192 .f32) (x2 : Vec F S1x32x8192 .bf16) (x3 : Vec F S1x32x8192 .fp8e4m3) (x4 : Vec F S1x32x64 .f32) (x5 : Vec F S1x32x64 .f32) (x6 : Vec F S1x32x8192 .fp8e4m3) (x7 : Vec F S1x32x64 .f32) (x8 : Vec F S1x32x64 .f32)

/-- The new first moment of group `n`. -/
def mG (n : Fin 64) : FVec F S32x128 .f32 := mom (big arg5 harg5 x3 n) (small arg6 harg6 x4 n) (small arg7 harg7 x5 n) (big arg4 harg4 x2 n)

/-- The new second moment of group `n`. -/
def vG (n : Fin 64) : FVec F S32x128 .f32 := vel (big arg8 harg8 x6 n) (small arg9 harg9 x7 n) (small arg10 harg10 x8 n) (big arg4 harg4 x2 n)

/-- The update of the weights of group `n`. -/
def uG (n : Fin 64) : FVec F S32x128 .f32 :=
  k0_pay9 (scal arg2 harg2 x0 (k0_off1 i) (k0_off1_inb i)) (scal arg2 harg2 x0 (k0_off2 i) (k0_off2_inb i)) (scal arg2 harg2 x0 ![4] inb_S7_S1_4) (scal arg2 harg2 x0 ![5] inb_S7_S1_5) (scal arg2 harg2 x0 ![6] inb_S7_S1_6)
    (mG arg4 harg4 arg5 harg5 arg6 harg6 arg7 harg7 x2 x3 x4 x5 n) (vG arg4 harg4 arg8 harg8 arg9 harg9 arg10 harg10 x2 x6 x7 x8 n) (big arg3 harg3 x1 n)

/-- The new weights of group `n`. -/
def wG (n : Fin 64) : FVec F S32x128 .f32 :=
  k0_pay10 (scal arg2 harg2 x0 (k0_off1 i) (k0_off1_inb i)) (scal arg2 harg2 x0 (k0_off2 i) (k0_off2_inb i)) (scal arg2 harg2 x0 ![4] inb_S7_S1_4) (scal arg2 harg2 x0 ![5] inb_S7_S1_5) (scal arg2 harg2 x0 ![6] inb_S7_S1_6)
    (mG arg4 harg4 arg5 harg5 arg6 harg6 arg7 harg7 x2 x3 x4 x5 n) (vG arg4 harg4 arg8 harg8 arg9 harg9 arg10 harg10 x2 x6 x7 x8 n) (big arg3 harg3 x1 n)

/-- The stores of the new weights. -/
theorem list9 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8).1
    = View.tilePieces (s := S1x32x8192) S1x32x128.size (fun n : Fin 64 => ![0, 0, 128 * n.val]) inbB (fun n : Fin 64 => shapeCast S1x32x128 (wG i arg2 harg2 arg3 harg3 arg4 harg4 arg5 harg5 arg6 harg6 arg7 harg7 arg8 harg8 arg9 harg9 arg10 harg10 x0 x1 x2 x3 x4 x5 x6 x7 x8 n) shapeCasts_S32x128_S1x32x128) 64 le_rfl := by
  sl_kernel_rfl

/-- The stores of the updates. -/
theorem list10 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8).2.1
    = View.tilePieces (s := S1x32x8192) S1x32x128.size (fun n : Fin 64 => ![0, 0, 128 * n.val]) inbB (fun n : Fin 64 => shapeCast S1x32x128 (uG i arg2 harg2 arg3 harg3 arg4 harg4 arg5 harg5 arg6 harg6 arg7 harg7 arg8 harg8 arg9 harg9 arg10 harg10 x0 x1 x2 x3 x4 x5 x6 x7 x8 n) shapeCasts_S32x128_S1x32x128) 64 le_rfl := by
  sl_kernel_rfl

/-- The stores of the first moment's codes. -/
theorem list11 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8).2.2.1
    = View.tilePieces (s := S1x32x8192) S1x32x128.size (fun n : Fin 64 => ![0, 0, 128 * n.val]) inbB (fun n : Fin 64 => qc (mG arg4 harg4 arg5 harg5 arg6 harg6 arg7 harg7 x2 x3 x4 x5 n)) 64 le_rfl := by
  sl_kernel_rfl

/-- The store of the first moment's scales. -/
theorem list12 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8).2.2.2.1
    = [⟨Rect.unit (s := S1x32x64) ![0, 0, 0] S1x32x64.size inb_S1x32x64_S1x32x64_0_0_0,
        shapeCast S1x32x64 (stat (fun n : Fin 64 => qs (mG arg4 harg4 arg5 harg5 arg6 harg6 arg7 harg7 x2 x3 x4 x5 n)) 64 le_rfl) shapeCasts_S32x64_S1x32x64⟩] := by
  sl_kernel_rfl

/-- The store of the first moment's exponents. -/
theorem list13 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8).2.2.2.2.1
    = [⟨Rect.unit (s := S1x32x64) ![0, 0, 0] S1x32x64.size inb_S1x32x64_S1x32x64_0_0_0,
        shapeCast S1x32x64 (stat (fun n : Fin 64 => qk (mG arg4 harg4 arg5 harg5 arg6 harg6 arg7 harg7 x2 x3 x4 x5 n)) 64 le_rfl) shapeCasts_S32x64_S1x32x64⟩] := by
  sl_kernel_rfl

/-- The stores of the second moment's codes. -/
theorem list14 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8).2.2.2.2.2.1
    = View.tilePieces (s := S1x32x8192) S1x32x128.size (fun n : Fin 64 => ![0, 0, 128 * n.val]) inbB (fun n : Fin 64 => qc (vG arg4 harg4 arg8 harg8 arg9 harg9 arg10 harg10 x2 x6 x7 x8 n)) 64 le_rfl := by
  sl_kernel_rfl

/-- The store of the second moment's scales. -/
theorem list15 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8).2.2.2.2.2.2.1
    = [⟨Rect.unit (s := S1x32x64) ![0, 0, 0] S1x32x64.size inb_S1x32x64_S1x32x64_0_0_0,
        shapeCast S1x32x64 (stat (fun n : Fin 64 => qs (vG arg4 harg4 arg8 harg8 arg9 harg9 arg10 harg10 x2 x6 x7 x8 n)) 64 le_rfl) shapeCasts_S32x64_S1x32x64⟩] := by
  sl_kernel_rfl

/-- The store of the second moment's exponents. -/
theorem list16 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8).2.2.2.2.2.2.2.1
    = [⟨Rect.unit (s := S1x32x64) ![0, 0, 0] S1x32x64.size inb_S1x32x64_S1x32x64_0_0_0,
        shapeCast S1x32x64 (stat (fun n : Fin 64 => qk (vG arg4 harg4 arg8 harg8 arg9 harg9 arg10 harg10 x2 x6 x7 x8 n)) 64 le_rfl) shapeCasts_S32x64_S1x32x64⟩] := by
  sl_kernel_rfl

/-- The stores of the weights' codes. -/
theorem list17 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8).2.2.2.2.2.2.2.2.1
    = View.tilePieces (s := S1x32x8192) S1x32x128.size (fun n : Fin 64 => ![0, 0, 128 * n.val]) inbB (fun n : Fin 64 => wc (wG i arg2 harg2 arg3 harg3 arg4 harg4 arg5 harg5 arg6 harg6 arg7 harg7 arg8 harg8 arg9 harg9 arg10 harg10 x0 x1 x2 x3 x4 x5 x6 x7 x8 n)) 64 le_rfl := by
  sl_kernel_rfl

/-- The store of the weights' scales. -/
theorem list18 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8).2.2.2.2.2.2.2.2.2.1
    = [⟨Rect.unit (s := S1x32x64) ![0, 0, 0] S1x32x64.size inb_S1x32x64_S1x32x64_0_0_0,
        shapeCast S1x32x64 (stat (fun n : Fin 64 => ws (wG i arg2 harg2 arg3 harg3 arg4 harg4 arg5 harg5 arg6 harg6 arg7 harg7 arg8 harg8 arg9 harg9 arg10 harg10 x0 x1 x2 x3 x4 x5 x6 x7 x8 n)) 64 le_rfl) shapeCasts_S32x64_S1x32x64⟩] := by
  sl_kernel_rfl

end Cert.KernelIdeal.Grp
-- ==== Proof.Spec.lean ====
/-
  The mathematics of one optimizer step on one group of 128 columns, on the extended reals, in the two
  spellings that the programs use: the kernel's (base-2 exponentials and logarithms, the exponent of a
  power of two found bit by bit) and the reference's (natural exponentials and logarithms, the exponent
  by a floor). Every definition is a chain of the operations of the ideal instance, one per operation of
  the program, so that each program's value unfolds to it.
-/
module

public import Idealize.ShloMosaic.PureOps.Ideal
public import Idealize.ShloMosaic.Lib.ValueIdx

@[expose] public section

noncomputable section

open Idealize.ShloMosaic

namespace Cert.Spec

/-- What an f32 literal denotes. -/
abbrev lit (b : BitVec 32) : EReal := Ideal.ofBits .f32 b

/-- The absolute value. -/
abbrev ab (x : EReal) : EReal := max x (-x)

/-- `1 / log 2`: what turns a natural logarithm into a base-2 one. -/
abbrev log2e : EReal := (((Real.log 2)⁻¹ : ℝ) : EReal)

/-- `log₂ 28672`, the dynamic range of the fp8 code in base-2 logarithm. -/
abbrev log2range : EReal := (((Real.log 28672) * (Real.log 2)⁻¹ : ℝ) : EReal)

/-- `log 28672`, the same range in natural logarithm. -/
abbrev lnrange : EReal := ((Real.log 28672 : ℝ) : EReal)

/-- The greatest of 128 values, from `-∞`. -/
def rowMax (f : Fin 128 → EReal) : EReal := Finset.univ.fold max (lit 0xFF800000#32) f

/-- The least of 128 values, from `+∞`. -/
def rowMin (f : Fin 128 → EReal) : EReal := Finset.univ.fold min (lit 0x7F800000#32) f

/-! ## What both programs share -/

/-- The sign of the code put on the root. -/
def signed (c r : EReal) : EReal := Scalar.select (Ideal.cmp .olt c (lit 0x00000000#32)) (lit 0x00000000#32 - r) r

/-- The new first moment from the dequantised one and the gradient. -/
def mNew (m g : EReal) : EReal := lit 0x3F666666#32 * m + lit 0x3DCCCCCD#32 * g

/-- The new second moment from the dequantised one and the gradient. -/
def vNew (v g : EReal) : EReal := lit 0x3F733333#32 * v + lit 0x3D4CCCCD#32 * g * g

/-- The update of a weight. -/
def upd (lr wd eps bc1 bc2 m v w : EReal) : EReal :=
  (lit 0x00000000#32 - lr) * (Ideal.div (m * bc1) (Ideal.sqrt (v * bc2) + eps) + wd * w)

/-- The largest magnitude of a row. -/
def amax (f : Fin 128 → EReal) : EReal := rowMax fun j => ab (f j)

/-- The smallest magnitude that is not zero. -/
def amin (f : Fin 128 → EReal) : EReal :=
  rowMin fun j => Scalar.select (Ideal.cmp .ogt (ab (f j)) (lit 0x00000000#32)) (ab (f j)) (lit 0x7F800000#32)

/-- Whether the row has two distinct magnitudes. -/
def spread (f : Fin 128 → EReal) : BitVec 1 := Ideal.cmp .olt (amin f) (amax f)

/-- The natural logarithm of the ratio of the largest to the smallest magnitude. -/
def lnratio (f : Fin 128 → EReal) : EReal :=
  Ideal.log (Ideal.div (Scalar.select (spread f) (amax f) (lit 0x3F800000#32)) (Scalar.select (spread f) (amin f) (lit 0x3F800000#32)))

/-- The scale of a quantised row: its largest magnitude, or one. -/
def qscale (f : Fin 128 → EReal) : EReal :=
  Scalar.select (Ideal.cmp .oeq (amax f) (lit 0x00000000#32)) (lit 0x3F800000#32) (amax f)

/-- The normalised magnitude of element `j` of a row. -/
def qmag (f : Fin 128 → EReal) (j : Fin 128) : EReal := ab (f j) * Ideal.div (lit 0x3F800000#32) (qscale f)

/-- The code from the expanded magnitude: stretched to the fp8 range, capped, signed. -/
def qcode (x p : EReal) : EReal := signed x (min (p * lit 0x43E00000#32) (lit 0x43E00000#32))

/-- The largest magnitude of a weight row over the largest fp8 value. -/
def wtop (f : Fin 128 → EReal) : EReal := amax f * lit 0x3B124925#32

/-- The clamp to the fp8 range. -/
def wclip (x : EReal) : EReal := min (lit 0x43E00000#32) (max (lit 0xC3E00000#32) x)

/-! ## The kernel's spelling -/

def deqK (c s k : EReal) : EReal :=
  signed c (s * Ideal.exp2 (Ideal.log (ab c * lit 0x3B124925#32) * log2e * Ideal.div (lit 0x3F800000#32) k))

/-- The exponent that stretches a row's dynamic range, from the base-2 logarithm of its ratio. -/
def qkK (f : Fin 128 → EReal) : EReal :=
  Scalar.select (spread f)
    (min (lit 0x40800000#32) (max (lit 0x3F800000#32)
      (Ideal.div log2range (Scalar.select (Ideal.cmp .ogt (lnratio f * log2e) (lit 0x00000000#32)) (lnratio f * log2e) (lit 0x3F800000#32)))))
    (lit 0x3F800000#32)

def qcK (f : Fin 128 → EReal) (j : Fin 128) : EReal :=
  qcode (f j) (Ideal.exp2 (Ideal.log (qmag f j) * log2e * qkK f))

/-- One step of the search for the exponent field: add `s` if the power of two it gives is not above `x`. -/
def rung (x : EReal) (s b : BitVec 32) : BitVec 32 :=
  Scalar.select (Ideal.cmp .oge x (lit (IntOp.addi b s))) (IntOp.addi b s) b

/-- The exponent field, in place, of the greatest power of two that is not above `x`. -/
def ladder (x : EReal) : BitVec 32 :=
  rung x 8388608#32 <| rung x 16777216#32 <| rung x 33554432#32 <| rung x 67108864#32 <|
  rung x 134217728#32 <| rung x 268435456#32 <| rung x 536870912#32 <| rung x 1048576000#32 0#32

def wsK (f : Fin 128 → EReal) : EReal :=
  Scalar.select (IntOp.cmpi .eq (ladder (wtop f)) 0#32) (lit 0x3F800000#32) (lit (IntOp.addi (ladder (wtop f)) 8388608#32))

def winvK (f : Fin 128 → EReal) : EReal :=
  Scalar.select (IntOp.cmpi .eq (ladder (wtop f)) 0#32) (lit 0x3F800000#32) (lit (IntOp.subi 2122317824#32 (ladder (wtop f))))

def wcK (f : Fin 128 → EReal) (j : Fin 128) : EReal := wclip (f j * winvK f)

/-! ## The reference's spelling -/

def deqR (c s k : EReal) : EReal :=
  signed c (s * Ideal.exp (Ideal.log (ab c * lit 0x3B124925#32) * Ideal.div (lit 0x3F800000#32) k))

def qkR (f : Fin 128 → EReal) : EReal :=
  Scalar.select (spread f)
    (min (lit 0x40800000#32) (max (lit 0x3F800000#32)
      (Ideal.div lnrange (Scalar.select (Ideal.cmp .ogt (lnratio f) (lit 0x00000000#32)) (lnratio f) (lit 0x3F800000#32)))))
    (lit 0x3F800000#32)

def qcR (f : Fin 128 → EReal) (j : Fin 128) : EReal :=
  qcode (f j) (Ideal.exp (Ideal.log (qmag f j) * qkR f))

/-- The exponent of a weight row's scale, an integer as an extended real. -/
def weR (x : EReal) : EReal :=
  Scalar.select (Ideal.cmp .olt x (lit 0x00800000#32)) (lit 0x00000000#32)
    (min (Ideal.liftRound Int.floor (Ideal.log x * log2e) + lit 0x3F800000#32) (lit 0x42FC0000#32))

def wsR (f : Fin 128 → EReal) : EReal := Ideal.exp2 (weR (wtop f))

def wcR (f : Fin 128 → EReal) (j : Fin 128) : EReal :=
  wclip (f j * Ideal.exp2 (lit 0x00000000#32 - weR (wtop f)))

end Cert.Spec
-- ==== Proof.GroupValue.lean ====
/-
  One group of 128 columns on the extended reals: each value the kernel computes for it, read at an
  element, is the mathematics of `Spec`.
-/
module

public import proofs.«01_k».proof.Proof.Group
public import proofs.«01_k».proof.Proof.Spec
public import Idealize.ShloMosaic.Lib.ValueIdx
public import Idealize.ShloMosaic.Lib.ValueLayout
public import Idealize.ShloMosaic.Lib.ValueLayoutCasts
public import Idealize.ShloMosaic.PureOps.Ideal.Laws
public import Idealize.ShloMosaic.Lib.Pipeline.ValueKit.Tiles

@[expose] public section

set_option maxRecDepth 16384

noncomputable section

namespace Cert.KernelIdeal.Grp

open Cert.KernelIdeal Cert.KernelIdeal.Gen Cert.Spec Idealize.ShloMosaic Idealize.ShloMosaic.TcCoe Idealize.ShloMosaic.ValueIdx

/-! ## Pointwise operations -/

theorem absf_apply {s : Shape} (x : FVec Ideal s .f32) (i : s.Idx) : absf x i = ab (x i) := rfl
theorem log_apply {s : Shape} (x : FVec Ideal s .f32) (i : s.Idx) : log x i = Ideal.log (x i) := rfl
theorem exp2_apply {s : Shape} (x : FVec Ideal s .f32) (i : s.Idx) : exp2 x i = Ideal.exp2 (x i) := rfl
theorem sqrt_apply {s : Shape} (x : FVec Ideal s .f32) (i : s.Idx) : sqrt x i = Ideal.sqrt (x i) := rfl

/-! ## Layout -/

theorem cast_in {α : Type} (x : S1x32x128.Idx → α) (h) (r : Fin 32) (j : Fin 128) :
    shapeCast S32x128 x h (ix2 r j) = x (ix3 (0 : Fin 1) r j) := shapeCast_1ab_ab_apply x h r j

theorem cast_in1 {α : Type} (x : S1x32x1.Idx → α) (h) (r : Fin 32) (j : Fin 1) :
    shapeCast S32x1 x h (ix2 r j) = x (ix3 (0 : Fin 1) r j) := shapeCast_1ab_ab_apply x h r j

theorem cast_out {α : Type} (x : S32x128.Idx → α) (h) (u : Fin 1) (r : Fin 32) (j : Fin 128) :
    shapeCast S1x32x128 x h (ix3 u r j) = x (ix2 r j) := shapeCast_ab_1ab_apply x h u r j

theorem cast_out64 {α : Type} (x : S32x64.Idx → α) (h) (u : Fin 1) (r : Fin 32) (j : Fin 64) :
    shapeCast S1x32x64 x h (ix3 u r j) = x (ix2 r j) := shapeCast_ab_1ab_apply x h u r j

theorem cast_col {α : Type} (x : S32.Idx → α) (h) (r : Fin 32) (u : Fin 1) :
    shapeCast S32x1 x h (ix2 r u) = x (ix1 r) := shapeCast_a_a1_apply x h r u

theorem bcast {α : Type} (x : S32x1.Idx → α) (h) (r : Fin 32) (j : Fin 128) :
    broadcastTo S32x128 x h (ix2 r j) = x (ix2 r (0 : Fin 1)) :=
  broadcastTo_apply x h _ _ fun a => match a with | ⟨0, _⟩ => rfl | ⟨1, _⟩ => rfl

theorem bcast64 {α : Type} (x : S32x1.Idx → α) (h) (r : Fin 32) (j : Fin 64) :
    broadcastTo S32x64 x h (ix2 r j) = x (ix2 r (0 : Fin 1)) :=
  broadcastTo_apply x h _ _ fun a => match a with | ⟨0, _⟩ => rfl | ⟨1, _⟩ => rfl

/-! ## Reductions of a row -/

theorem max_row (x : FVec Ideal S32x128 .f32) (h hφ hacc) (r : Fin 32) :
    multiReduction .maximumf [1] S32 x 0xFF800000#32 h hφ hacc (ix1 r) = rowMax fun j => x (ix2 r j) := by
  rw [multiReduction_maximumf_eq_fold, h.fold_filter_drop_single]
  refine congrArg (fun f => Finset.fold max (lit 0xFF800000#32) f (Finset.univ : Finset (Fin 128))) ?_
  funext j
  refine congrArg x (funext fun a => ?_)
  match a with | ⟨0, _⟩ => rfl | ⟨1, _⟩ => rfl

theorem min_row (x : FVec Ideal S32x128 .f32) (h hφ hacc) (r : Fin 32) :
    multiReduction .minimumf [1] S32 x 0x7F800000#32 h hφ hacc (ix1 r) = rowMin fun j => x (ix2 r j) := by
  rw [multiReduction_minimumf_eq_fold, h.fold_filter_drop_single]
  refine congrArg (fun f => Finset.fold min (lit 0x7F800000#32) f (Finset.univ : Finset (Fin 128))) ?_
  funext j
  refine congrArg x (funext fun a => ?_)
  match a with | ⟨0, _⟩ => rfl | ⟨1, _⟩ => rfl

/-! ## The named constants -/

theorem named_log2e : Named.named (F := Ideal) (φ := .f32) κ "log2_e" 0x3FB8AA3B#32 = log2e :=
  IdealRules.named_const.ideal_named_scalar _ _ _ _ rfl

theorem named_log2range : Named.named (F := Ideal) (φ := .f32) κ "log2_range" 0x416CEAED#32 = log2range :=
  IdealRules.named_const.ideal_named_scalar _ _ _ _ rfl

/-! ## The moments -/

theorem deq_apply (c : Vec Ideal S1x32x128 .fp8e4m3) (s k : Vec Ideal S1x32x1 .f32) (r : Fin 32) (j : Fin 128) :
    k0_pay4 c s k (ix2 r j) = deqK (c (ix3 (0 : Fin 1) r j)) (s (ix3 (0 : Fin 1) r (0 : Fin 1))) (k (ix3 (0 : Fin 1) r (0 : Fin 1))) := by
  simp only [k0_pay4, select_apply, mulf_apply, subf_apply, cmpf_apply, extf_apply, bcast, divf_apply, cast_in1, exp2_apply, log_apply, absf_apply, cast_in, broadcast_apply, named_log2e]
  rfl

theorem grad_apply (g : Vec Ideal S1x32x128 .bf16) (r : Fin 32) (j : Fin 128) :
    k0_pay5 g (ix2 r j) = g (ix3 (0 : Fin 1) r j) := by
  simp only [k0_pay5, extf_apply, cast_in]

theorem mom_apply (c : Vec Ideal S1x32x128 .fp8e4m3) (s k : Vec Ideal S1x32x1 .f32) (g : Vec Ideal S1x32x128 .bf16) (r : Fin 32) (j : Fin 128) :
    mom c s k g (ix2 r j) = mNew (deqK (c (ix3 (0 : Fin 1) r j)) (s (ix3 (0 : Fin 1) r (0 : Fin 1))) (k (ix3 (0 : Fin 1) r (0 : Fin 1)))) (g (ix3 (0 : Fin 1) r j)) := by
  simp only [mom, k0_pay6, addf_apply, mulf_apply, deq_apply, grad_apply, broadcast_apply]
  rfl

theorem vel_apply (c : Vec Ideal S1x32x128 .fp8e4m3) (s k : Vec Ideal S1x32x1 .f32) (g : Vec Ideal S1x32x128 .bf16) (r : Fin 32) (j : Fin 128) :
    vel c s k g (ix2 r j) = vNew (deqK (c (ix3 (0 : Fin 1) r j)) (s (ix3 (0 : Fin 1) r (0 : Fin 1))) (k (ix3 (0 : Fin 1) r (0 : Fin 1)))) (g (ix3 (0 : Fin 1) r j)) := by
  simp only [vel, k0_pay7, select_apply, mulf_apply, addf_apply, subf_apply, cmpf_apply, extf_apply, bcast, divf_apply, cast_in1, exp2_apply, log_apply, absf_apply, cast_in, broadcast_apply, named_log2e, grad_apply]
  rfl

/-! ## The update -/

theorem upd_apply (lr wd eps bc1 bc2 : Elt Ideal .f32) (m v : FVec Ideal S32x128 .f32) (w : Vec Ideal S1x32x128 .f32) (r : Fin 32) (j : Fin 128) :
    k0_pay9 lr wd eps bc1 bc2 m v w (ix2 r j) = upd lr wd eps bc1 bc2 (m (ix2 r j)) (v (ix2 r j)) (w (ix3 (0 : Fin 1) r j)) := by
  simp only [k0_pay9, k0_pay8, addf_apply, mulf_apply, divf_apply, sqrt_apply, cast_in, broadcast_apply]
  rfl

theorem wnew_apply (lr wd eps bc1 bc2 : Elt Ideal .f32) (m v : FVec Ideal S32x128 .f32) (w : Vec Ideal S1x32x128 .f32) (r : Fin 32) (j : Fin 128) :
    k0_pay10 lr wd eps bc1 bc2 m v w (ix2 r j)
      = w (ix3 (0 : Fin 1) r j) + upd lr wd eps bc1 bc2 (m (ix2 r j)) (v (ix2 r j)) (w (ix3 (0 : Fin 1) r j)) := by
  simp only [k0_pay10, addf_apply, upd_apply, k0_pay8, cast_in]

/-! ## The quantised rows -/

theorem amax_apply (x : FVec Ideal S32x128 .f32) (r : Fin 32) : k0_pay14 x (ix2 r (0 : Fin 1)) = amax fun j => x (ix2 r j) := by
  rw [k0_pay14, cast_col]
  exact max_row _ _ _ _ r

theorem amin_apply (x : FVec Ideal S32x128 .f32) (r : Fin 32) : k0_pay15 x (ix2 r (0 : Fin 1)) = amin fun j => x (ix2 r j) := by
  rw [k0_pay15, cast_col]
  exact min_row _ _ _ _ r

theorem spread_apply (x : FVec Ideal S32x128 .f32) (r : Fin 32) : k0_pay16 x (ix2 r (0 : Fin 1)) = spread fun j => x (ix2 r j) := by
  simp only [k0_pay16, cmpf_apply, amax_apply, amin_apply]
  rfl

theorem ratio_apply (x : FVec Ideal S32x128 .f32) (r : Fin 32) :
    k0_pay17 x (ix2 r (0 : Fin 1)) = (lnratio fun j => x (ix2 r j)) * log2e := by
  simp only [k0_pay17, mulf_apply, log_apply, divf_apply, select_apply, broadcast_apply, amax_apply, amin_apply, spread_apply, named_log2e]
  rfl

theorem qk_apply (x : FVec Ideal S32x128 .f32) (r : Fin 32) : qk x (ix2 r (0 : Fin 1)) = qkK fun j => x (ix2 r j) := by
  simp only [qk, k0_pay19, k0_pay18, select_apply, minimumf_apply, maximumf_apply, divf_apply, cmpf_apply, broadcast_apply, spread_apply, ratio_apply, named_log2range]
  rfl

theorem qs_apply (x : FVec Ideal S32x128 .f32) (r : Fin 32) : qs x (ix2 r (0 : Fin 1)) = qscale fun j => x (ix2 r j) := by
  simp only [qs, k0_pay20, select_apply, cmpf_apply, broadcast_apply, amax_apply]
  rfl

theorem qc_apply (x : FVec Ideal S32x128 .f32) (u : Fin 1) (r : Fin 32) (j : Fin 128) :
    qc x (ix3 u r j) = qcK (fun j => x (ix2 r j)) j := by
  have hk := qk_apply x r
  have hs := qs_apply x r
  unfold qk at hk
  unfold qs at hs
  simp only [qc, k0_pay21, k0_pay13, cast_out, truncf_apply, select_apply, subf_apply, minimumf_apply, mulf_apply, exp2_apply, log_apply, cmpf_apply, bcast, broadcast_apply, divf_apply, hk, hs, absf_apply, named_log2e]
  rfl

/-! ## The weight rows -/

theorem wtop_apply (x : FVec Ideal S32x128 .f32) (r : Fin 32) : k0_pay29 x (ix2 r (0 : Fin 1)) = wtop fun j => x (ix2 r j) := by
  simp only [k0_pay29, mulf_apply, broadcast_apply, cast_col]
  exact congrArg (· * lit 0x3B124925#32) (max_row _ _ _ _ r)

/-- One step of the search for the exponent field, on a column. -/
def rungV (x : FVec Ideal S32x1 .f32) (s : BitVec 32) (b : IVec S32x1 32) : IVec S32x1 32 :=
  select (cmpf .oge x (bitcastToFloat .f32 (addi b (broadcast S32x1 s)))) (addi b (broadcast S32x1 s)) b

theorem rungV_apply (x : FVec Ideal S32x1 .f32) (s : BitVec 32) (b : IVec S32x1 32) (i : S32x1.Idx) :
    rungV x s b i = rung (x i) s (b i) := by
  rw [rungV]
  rfl

theorem pay30_eq (x : FVec Ideal S32x128 .f32) : k0_pay30 x
    = rungV (k0_pay29 x) 33554432#32 (rungV (k0_pay29 x) 67108864#32 (rungV (k0_pay29 x) 134217728#32
      (rungV (k0_pay29 x) 268435456#32 (rungV (k0_pay29 x) 536870912#32 (rungV (k0_pay29 x) 1048576000#32 (broadcast S32x1 0#32)))))) := by
  generalize hy : k0_pay29 x = y
  simp only [k0_pay30, hy, rungV]

theorem pay31_eq (y : FVec Ideal S32x1 .f32) (b : IVec S32x1 32) : k0_pay31 y b = rungV y 8388608#32 (rungV y 16777216#32 b) := rfl

theorem ladder_apply (x : FVec Ideal S32x128 .f32) (r : Fin 32) :
    k0_pay31 (k0_pay29 x) (k0_pay30 x) (ix2 r (0 : Fin 1)) = ladder (wtop fun j => x (ix2 r j)) := by
  rw [← wtop_apply]
  rw [pay31_eq, pay30_eq, ladder]
  generalize k0_pay29 x = y
  iterate 8 rw [rungV_apply]
  rw [broadcast_apply]

theorem ws_apply (x : FVec Ideal S32x128 .f32) (r : Fin 32) : ws x (ix2 r (0 : Fin 1)) = wsK fun j => x (ix2 r j) := by
  simp only [wsK, ← ladder_apply]
  rfl

theorem wc_apply (x : FVec Ideal S32x128 .f32) (u : Fin 1) (r : Fin 32) (j : Fin 128) :
    wc x (ix3 u r j) = wcK (fun j => x (ix2 r j)) j := by
  simp only [wcK, winvK, ← ladder_apply, wc, k0_pay34, cast_out, truncf_apply, minimumf_apply, maximumf_apply, mulf_apply, bcast]
  rfl

/-! ## The statistics block -/

theorem stat_apply (f : Fin 64 → FVec Ideal S32x1 .f32) (r : Fin 32) (n : Fin 64) (j : ℕ) (h : j ≤ 64) (hn : n.val < j) :
    stat f j h (ix2 r n) = f n (ix2 r (0 : Fin 1)) := by
  induction j with
  | zero => omega
  | succ j ih =>
    unfold stat
    rw [select_apply, bcast64, shapeCast_self]
    have hc : cmpi .eq (iota .tc S32x64 32 [1] iota_S32x64_d1_w32) (broadcast S32x64 (BitVec.ofNat 32 j)) (ix2 r n)
        = IntOp.cmpi .eq (BitVec.ofNat 32 (0 * 64 + n.val)) (BitVec.ofNat 32 j) := rfl
    rw [hc]
    by_cases e : n.val = j
    · have : n = ⟨j, h⟩ := Fin.ext e
      subst this
      simp [IntOp.cmpi, Scalar.select]
    · have hne : BitVec.ofNat 32 n.val ≠ BitVec.ofNat 32 j := fun hh => e (by
        have := congrArg BitVec.toNat hh
        simp only [BitVec.toNat_ofNat] at this
        omega)
      have := ih (Nat.le_of_succ_le h) (by omega)
      rw [this, Nat.zero_mul, Nat.zero_add]
      have hb : IntOp.cmpi .eq (BitVec.ofNat 32 n.val) (BitVec.ofNat 32 j) = 0#1 := by
        show BitVec.ofBool (BitVec.ofNat 32 n.val == BitVec.ofNat 32 j) = 0#1
        rw [beq_eq_false_iff_ne.mpr hne]
        rfl
      rw [hb]
      exact select_zero _ _

/-! ## Reads of the tiles -/

theorem big_apply {e : EltTy} (a : Memref sig .tc .vmem S1x32x8192 e) (ha : a.IsWhole) (x : Vec Ideal S1x32x8192 e) (n : Fin 64)
    (r : Fin 32) (j : Fin 128) (q : Fin 8192) (hq : q.val = 128 * n.val + j.val) :
    big a ha x n (ix3 (0 : Fin 1) r j) = x (ix3 (0 : Fin 1) r q) := by
  unfold big
  rw [View.readAt_eq_ld, ha.read_unread]
  refine View.ld_unit_apply_of _ _ _ _ _ _ fun d => ?_
  match d with
  | ⟨0, _⟩ => rfl
  | ⟨1, _⟩ => show r.val = 0 + r.val; omega
  | ⟨2, _⟩ => exact hq

theorem small_apply {e : EltTy} (a : Memref sig .tc .vmem S1x32x64 e) (ha : a.IsWhole) (x : Vec Ideal S1x32x64 e) (n : Fin 64)
    (r : Fin 32) : small a ha x n (ix3 (0 : Fin 1) r (0 : Fin 1)) = x (ix3 (0 : Fin 1) r n) := by
  unfold small
  rw [View.readAt_eq_ld, ha.read_unread]
  refine View.ld_unit_apply_of _ _ _ _ _ _ fun d => ?_
  match d with
  | ⟨0, _⟩ => rfl
  | ⟨1, _⟩ => show r.val = 0 + r.val; omega
  | ⟨2, _⟩ => rfl

theorem scal_apply (a : Memref sig .tc .smem S7 .f32) (ha : a.IsWhole) (x : Vec Ideal S7 .f32) (off : Fin 1 → ℕ) (inb)
    (n : Fin 7) (hn : n.val = off 0) : scal a ha x off inb = x (ix1 n) := by
  unfold scal
  rw [View.readAt_eq_ld, ha.read_unread]
  refine View.ld_unit_apply_of _ _ _ _ _ _ fun d => ?_
  match d with
  | ⟨0, _⟩ => exact hn

end Cert.KernelIdeal.Grp
-- ==== Proof.SpecEq.lean ====
/-
  The two spellings of Spec.lean are equal on the extended reals: `2 ^ (y / log 2) = e ^ y`, a quotient
  of two base-2 logarithms is the quotient of the natural ones, and the exponent field found bit by bit
  is the floor of the base-2 logarithm, within the exponents of a normal f32.
-/
module

public import proofs.«01_k».proof.Proof.Spec
public import Idealize.ShloMosaic.PureOps.Ideal.Laws

@[expose] public section

noncomputable section

open Idealize.ShloMosaic

namespace Cert.Spec

/-! ## Literals -/

theorem lit_zero : lit 0x00000000#32 = 0 := by simp [lit, Ideal.ofBits, Ideal.ieee]

/-- The word whose exponent field is `n` and whose other bits are zero. -/
@[irreducible] def field (n : ℕ) : BitVec 32 := BitVec.ofNat 32 (8388608 * n)

theorem toNat_field (n : ℕ) : (field n).toNat = (8388608 * n) % 4294967296 := by
  unfold field
  rw [BitVec.toNat_ofNat]

theorem field_add (m n : ℕ) : field m + field n = field (m + n) := by
  apply BitVec.eq_of_toNat_eq
  rw [BitVec.toNat_add, toNat_field, toNat_field, toNat_field]
  omega

theorem eq_field (b : BitVec 32) (n : ℕ) (h : b.toNat = (8388608 * n) % 4294967296) : b = field n :=
  BitVec.eq_of_toNat_eq (by rw [toNat_field, h])

/-- A word that is an exponent field alone denotes the power of two. -/
theorem lit_exp (n : ℕ) (h1 : 1 ≤ n) (h2 : n ≤ 254) :
    lit (field n) = (((2 : ℝ) ^ ((n : ℤ) - 127) : ℝ) : EReal) := by
  have hneg : (BitVec.extractLsb' (8 + 23) 1 (field n) == 1#1) = false := by
    rw [beq_eq_false_iff_ne]
    intro h
    have := congrArg BitVec.toNat h
    simp only [BitVec.extractLsb'_toNat, toNat_field, Nat.shiftRight_eq_div_pow, BitVec.toNat_ofNat] at this
    omega
  have hex : (BitVec.extractLsb' 23 8 (field n)).toNat = n := by
    simp only [BitVec.extractLsb'_toNat, toNat_field, Nat.shiftRight_eq_div_pow]
    omega
  have hfr : (BitVec.extractLsb' 0 23 (field n)).toNat = 0 := by
    simp only [BitVec.extractLsb'_toNat, toNat_field, Nat.shiftRight_eq_div_pow]
    omega
  show Ideal.ieee 8 23 (field n) = _
  unfold Ideal.ieee
  simp only [hneg, hex, hfr]
  rw [if_neg (by omega), if_neg (by omega)]
  have : (2 : ℝ) ^ ((n : ℤ) - 127) = (2 : ℝ) ^ 23 * (2 : ℝ) ^ ((n : ℤ) - 150) := by
    rw [← zpow_natCast, ← zpow_add₀ (by norm_num)]
    congr 1
    push_cast
    ring
  rw [this]
  congr 1
  norm_num
  ring_nf

theorem lit_field (b : BitVec 32) (n : ℕ) (h1 : 1 ≤ n) (h2 : n ≤ 254) (h : b.toNat = (8388608 * n) % 4294967296) :
    lit b = (((2 : ℝ) ^ ((n : ℤ) - 127) : ℝ) : EReal) := by
  rw [eq_field b n h, lit_exp n h1 h2]

theorem lit_one : lit 0x3F800000#32 = ((1 : ℝ) : EReal) := by
  rw [lit_field _ 127 (by omega) (by omega) (by decide)]
  norm_num

theorem lit_four : lit 0x40800000#32 = ((4 : ℝ) : EReal) := by
  rw [lit_field _ 129 (by omega) (by omega) (by decide)]
  norm_num

theorem lit_126 : lit 0x42FC0000#32 = ((126 : ℝ) : EReal) := by
  show Ideal.ieee 8 23 0x42FC0000#32 = _
  unfold Ideal.ieee
  have hneg : (BitVec.extractLsb' (8 + 23) 1 0x42FC0000#32 == 1#1) = false := by decide
  have hex : (BitVec.extractLsb' 23 8 0x42FC0000#32).toNat = 133 := by decide
  have hfr : (BitVec.extractLsb' 0 23 0x42FC0000#32).toNat = 8126464 := by decide
  simp only [hneg, hex, hfr]
  rw [if_neg (by omega), if_neg (by omega)]
  congr 1
  norm_num

theorem lit_min : lit 0x00800000#32 = (((2 : ℝ) ^ (-126 : ℤ) : ℝ) : EReal) := by
  rw [lit_field _ 1 (by omega) (by omega) (by decide)]
  norm_num

/-! ## Exponentials -/

theorem log2_pos : 0 < Real.log 2 := Real.log_pos (by norm_num)

theorem log2e_pos : 0 < (Real.log 2)⁻¹ := inv_pos.mpr log2_pos

/-- `2 ^ (t / log 2) = e ^ t`. -/
theorem exp2_mul_log2e (t : EReal) : Ideal.exp2 (t * log2e) = Ideal.exp t := by
  induction t using EReal.rec with
  | bot => rw [log2e, EReal.bot_mul_coe_of_pos log2e_pos]; rfl
  | top => rw [log2e, EReal.top_mul_coe_of_pos log2e_pos]; rfl
  | coe r =>
    rw [log2e, ← EReal.coe_mul]
    show ((Real.rpow 2 (r * (Real.log 2)⁻¹) : ℝ) : EReal) = ((Real.exp r : ℝ) : EReal)
    congr 1
    show (2 : ℝ) ^ (r * (Real.log 2)⁻¹) = _
    rw [Real.rpow_def_of_pos (by norm_num)]
    congr 1
    have := log2_pos.ne'
    field_simp

theorem exp2_mul (y z : EReal) : Ideal.exp2 (y * log2e * z) = Ideal.exp (y * z) := by
  rw [mul_right_comm, exp2_mul_log2e]

theorem deq_eq (c s k : EReal) : deqK c s k = deqR c s k := by
  unfold deqK deqR
  rw [exp2_mul]

/-! ## The stretching exponent -/

theorem lnrange_ge : (4 : ℝ) ≤ Real.log 28672 := by
  have h : 1 - (2 : ℝ)⁻¹ ≤ Real.log 2 := Real.one_sub_inv_le_log_of_pos (by norm_num)
  have h14 : Real.log ((2 : ℝ) ^ 14) = 14 * Real.log 2 := by rw [Real.log_pow]; norm_num
  have : Real.log ((2 : ℝ) ^ 14) ≤ Real.log 28672 := Real.log_le_log (by norm_num) (by norm_num)
  rw [h14] at this
  norm_num at h
  linarith

theorem log2e_ge_one : (1 : ℝ) ≤ (Real.log 2)⁻¹ := by
  rw [one_le_inv₀ log2_pos]
  have := Real.log_le_sub_one_of_pos (x := 2) (by norm_num)
  linarith

theorem clip_big (R : ℝ) (h : 4 ≤ R) :
    min ((4 : ℝ) : EReal) (max ((1 : ℝ) : EReal) (Ideal.div (R : EReal) ((1 : ℝ) : EReal))) = ((4 : ℝ) : EReal) := by
  have h1 : Ideal.div (R : EReal) ((1 : ℝ) : EReal) = (R : EReal) := by
    unfold Ideal.div
    rw [if_neg (by simp)]
    simp
  rw [h1, min_eq_left]
  exact le_max_of_le_right (EReal.coe_le_coe_iff.mpr h)

theorem stretch_eq (y : EReal) :
    min (lit 0x40800000#32) (max (lit 0x3F800000#32)
      (Ideal.div log2range (Scalar.select (Ideal.cmp .ogt (y * log2e) (lit 0x00000000#32)) (y * log2e) (lit 0x3F800000#32))))
    = min (lit 0x40800000#32) (max (lit 0x3F800000#32)
      (Ideal.div lnrange (Scalar.select (Ideal.cmp .ogt y (lit 0x00000000#32)) y (lit 0x3F800000#32)))) := by
  have hR : (4 : ℝ) ≤ Real.log 28672 * (Real.log 2)⁻¹ := by
    have := lnrange_ge; have := log2e_ge_one
    nlinarith
  have hsel (x : EReal) (a b : EReal) : Scalar.select (Ideal.cmp .ogt x 0) a b = if 0 < x then a else b := by
    by_cases h : 0 < x <;> simp [Scalar.select, Ideal.cmp, h]
  rw [lit_zero, lit_one, lit_four, hsel, hsel]
  induction y using EReal.rec with
  | bot =>
    rw [log2e, EReal.bot_mul_coe_of_pos log2e_pos, if_neg (by simp), clip_big _ hR, clip_big _ lnrange_ge]
  | top =>
    rw [log2e, EReal.top_mul_coe_of_pos log2e_pos, if_pos (by simp)]
    unfold Ideal.div
    rw [if_neg (by simp), if_neg (by simp), EReal.inv_top, mul_zero, mul_zero]
  | coe r =>
    rw [log2e, ← EReal.coe_mul]
    by_cases h : 0 < r
    · have h2 : 0 < r * (Real.log 2)⁻¹ := mul_pos h log2e_pos
      rw [if_pos (by exact_mod_cast h2), if_pos (by exact_mod_cast h)]
      unfold Ideal.div
      rw [if_neg (by exact_mod_cast h2.ne'), if_neg (by exact_mod_cast h.ne')]
      rw [← EReal.coe_inv, ← EReal.coe_inv, ← EReal.coe_mul, ← EReal.coe_mul]
      congr 3
      have := log2_pos.ne'
      field_simp
    · have h2 : ¬ 0 < r * (Real.log 2)⁻¹ := by
        rw [mul_pos_iff_of_pos_right log2e_pos]; exact h
      rw [if_neg (by exact_mod_cast h2), if_neg (by exact_mod_cast h), clip_big _ hR, clip_big _ lnrange_ge]

theorem qk_eq (f : Fin 128 → EReal) : qkK f = qkR f := by
  unfold qkK qkR
  rw [stretch_eq]

theorem qc_eq (f : Fin 128 → EReal) (j : Fin 128) : qcK f j = qcR f j := by
  unfold qcK qcR
  rw [exp2_mul, qk_eq]

/-! ## The exponent of the weight scale -/

theorem select_oge (x y : EReal) {α : Type} (a b : α) : Scalar.select (Ideal.cmp .oge x y) a b = if y ≤ x then a else b := by
  by_cases h : y ≤ x <;> simp [Scalar.select, Ideal.cmp, h]

theorem select_olt (x y : EReal) {α : Type} (a b : α) : Scalar.select (Ideal.cmp .olt x y) a b = if x < y then a else b := by
  by_cases h : x < y <;> simp [Scalar.select, Ideal.cmp, h]

/-- The exponent field that a value `x` asks for: `g`, at most 252, with `2 ^ (n - 127) ≤ x` exactly when
    `n ≤ g`; where it is not zero, `g - 126` is the floor of the base-2 logarithm plus one, at most 126. -/
theorem exists_field (x : EReal) : ∃ g : ℕ, g ≤ 252 ∧
    (∀ n : ℕ, 1 ≤ n → n ≤ 252 → ((((2 : ℝ) ^ ((n : ℤ) - 127) : ℝ) : EReal) ≤ x ↔ n ≤ g)) ∧
    (1 ≤ g → min (Ideal.liftRound Int.floor (Ideal.log x * log2e) + ((1 : ℝ) : EReal)) ((126 : ℝ) : EReal)
      = (((g : ℤ) - 126 : ℤ) : ℝ)) := by
  induction x using EReal.rec with
  | bot => exact ⟨0, by omega, fun n h1 _ => by simp; omega, fun h => by omega⟩
  | top =>
    refine ⟨252, le_rfl, fun n _ h2 => by simp [h2], fun _ => ?_⟩
    have : Ideal.log ⊤ = ⊤ := rfl
    rw [this, log2e, EReal.top_mul_coe_of_pos log2e_pos]
    show min ((⊤ : EReal) + _) _ = _
    rw [EReal.top_add_coe, min_eq_right le_top]
    norm_num
  | coe r =>
    by_cases hr : r < (2 : ℝ) ^ (-126 : ℤ)
    · refine ⟨0, by omega, fun n h1 _ => ?_, fun h => by omega⟩
      rw [EReal.coe_le_coe_iff]
      constructor
      · intro h
        have : (2 : ℝ) ^ (-126 : ℤ) ≤ 2 ^ ((n : ℤ) - 127) := zpow_le_zpow_right₀ (by norm_num) (by omega)
        linarith
      · omega
    · have h0 : (0 : ℝ) < 2 ^ (-126 : ℤ) := by positivity
      have hr' : (2 : ℝ) ^ (-126 : ℤ) ≤ r := not_lt.mp hr
      have hpos : 0 < r := lt_of_lt_of_le h0 hr'
      have key (n : ℤ) : (2 : ℝ) ^ n ≤ r ↔ n ≤ ⌊Real.log r * (Real.log 2)⁻¹⌋ := by
        rw [Int.le_floor, ← div_eq_mul_inv, le_div_iff₀ log2_pos, ← Real.log_zpow,
          Real.log_le_log_iff (by positivity) hpos]
      have hf : -126 ≤ ⌊Real.log r * (Real.log 2)⁻¹⌋ := (key _).mp hr'
      generalize hF : ⌊Real.log r * (Real.log 2)⁻¹⌋ = F at key hf
      refine ⟨min (F + 127).toNat 252, min_le_right _ _, fun n h1 h2 => ?_, fun _ => ?_⟩
      · rw [EReal.coe_le_coe_iff, key]
        omega
      · have hl : Ideal.log (r : EReal) = ((Real.log r : ℝ) : EReal) := by
          show (if r ≤ 0 then (⊥ : EReal) else _) = _
          rw [if_neg (not_le.mpr hpos)]
        rw [hl, log2e, ← EReal.coe_mul]
        show min ((((⌊Real.log r * (Real.log 2)⁻¹⌋ : ℤ) : ℝ) : EReal) + _) _ = _
        rw [hF, ← EReal.coe_add]
        have : ((F : ℝ) + 1) = ((F + 1 : ℤ) : ℝ) := by push_cast; ring
        rw [this, show (126 : ℝ) = ((126 : ℤ) : ℝ) by norm_num]
        rcases le_total (F + 1) 126 with h | h
        · rw [min_eq_left (by exact_mod_cast h)]
          congr 2
          omega
        · rw [min_eq_right (by exact_mod_cast h)]
          congr 2
          omega

theorem rung_ofNat (x : EReal) (g E s : ℕ) (hg : ∀ n : ℕ, 1 ≤ n → n ≤ 252 → ((((2 : ℝ) ^ ((n : ℤ) - 127) : ℝ) : EReal) ≤ x ↔ n ≤ g))
    (hs : 1 ≤ s) (hE : E + s ≤ 252) :
    rung x (field s) (field E)
      = field (if E + s ≤ g then E + s else E) := by
  have hadd : IntOp.addi (field E) (field s) = field (E + s) := by
    exact field_add E s
  unfold rung
  rw [hadd, select_oge, lit_exp _ (by omega) (by omega)]
  by_cases h : E + s ≤ g
  · rw [if_pos h, if_pos ((hg _ (by omega) hE).mpr h)]
  · rw [if_neg h, if_neg (fun h' => h ((hg _ (by omega) hE).mp h'))]

theorem ladder_eq (x : EReal) (g : ℕ) (hb : g ≤ 252)
    (hg : ∀ n : ℕ, 1 ≤ n → n ≤ 252 → ((((2 : ℝ) ^ ((n : ℤ) - 127) : ℝ) : EReal) ≤ x ↔ n ≤ g)) :
    ladder x = field g := by
  have R := rung_ofNat x g
  unfold ladder
  have e0 : rung x 1048576000#32 0#32 = field (if 125 ≤ g then 125 else 0) := by
    have := R 0 125 hg (by omega) (by omega)
    rw [← eq_field 1048576000#32 125 (by decide), ← eq_field 0#32 0 (by decide)] at this
    simpa using this
  obtain ⟨E0, hE0, h0⟩ : ∃ E, E = (if 125 ≤ g then 125 else 0) ∧ (E ≤ g ∧ g < E + 128 ∧ E + 128 ≤ 253) :=
    ⟨_, rfl, by split <;> omega⟩
  rw [e0, ← hE0]
  clear e0 hE0
  have step (s E : ℕ) (hs : 1 ≤ s) (h : E ≤ g ∧ g < E + (s + s) ∧ E + (s + s) ≤ 253) :
      ∃ E', rung x (field s) (field E) = field (E')
        ∧ (E' ≤ g ∧ g < E' + s ∧ E' + s ≤ 253) :=
    ⟨_, R E s hg hs (by omega), by split <;> omega⟩
  obtain ⟨E1, e1, h1⟩ := step 64 E0 (by omega) h0
  obtain ⟨E2, e2, h2⟩ := step 32 E1 (by omega) h1
  obtain ⟨E3, e3, h3⟩ := step 16 E2 (by omega) h2
  obtain ⟨E4, e4, h4⟩ := step 8 E3 (by omega) h3
  obtain ⟨E5, e5, h5⟩ := step 4 E4 (by omega) h4
  obtain ⟨E6, e6, h6⟩ := step 2 E5 (by omega) h5
  obtain ⟨E7, e7, h7⟩ := step 1 E6 (by omega) h6
  rw [← eq_field 536870912#32 64 (by decide)] at e1
  rw [← eq_field 268435456#32 32 (by decide)] at e2
  rw [← eq_field 134217728#32 16 (by decide)] at e3
  rw [← eq_field 67108864#32 8 (by decide)] at e4
  rw [← eq_field 33554432#32 4 (by decide)] at e5
  rw [← eq_field 16777216#32 2 (by decide)] at e6
  rw [← eq_field 8388608#32 1 (by decide)] at e7
  rw [e1, e2, e3, e4, e5, e6, e7]
  congr 1
  omega

/-- The scale and its inverse, from the exponent field and from the floor. -/
theorem scale_eq (x : EReal) :
    Scalar.select (IntOp.cmpi .eq (ladder x) 0#32) (lit 0x3F800000#32) (lit (IntOp.addi (ladder x) 8388608#32)) = Ideal.exp2 (weR x)
    ∧ Scalar.select (IntOp.cmpi .eq (ladder x) 0#32) (lit 0x3F800000#32) (lit (IntOp.subi 2122317824#32 (ladder x)))
      = Ideal.exp2 (lit 0x00000000#32 - weR x) := by
  obtain ⟨g, hb, hg, hm⟩ := exists_field x
  rw [ladder_eq x g hb hg]
  unfold weR
  rw [select_olt, lit_min, lit_zero, lit_126, lit_one]
  have h1 := hg 1 le_rfl (by omega)
  rw [show ((1 : ℕ) : ℤ) - 127 = -126 by omega] at h1
  have hexp (z : ℤ) : Ideal.exp2 ((z : ℝ) : EReal) = (((2 : ℝ) ^ z : ℝ) : EReal) := by
    show ((Real.rpow 2 (z : ℝ) : ℝ) : EReal) = _
    congr 1
    exact Real.rpow_intCast 2 z
  by_cases h : 1 ≤ g
  · have hx : ¬ x < (((2 : ℝ) ^ (-126 : ℤ) : ℝ) : EReal) := by
      exact not_lt.mpr (h1.mpr h)
    have hc : IntOp.cmpi .eq (field g) 0#32 = 0#1 := by
      have : field g ≠ 0#32 := by
        intro h'
        have := congrArg BitVec.toNat h'
        simp only [toNat_field, BitVec.toNat_ofNat] at this
        omega
      show BitVec.ofBool (field g == 0#32) = 0#1
      rw [beq_eq_false_iff_ne.mpr this]; rfl
    rw [hc, if_neg hx, hm h]
    have ha : IntOp.addi (field g) 8388608#32 = field (g + 1) := by
      rw [eq_field 8388608#32 1 (by decide)]
      exact field_add g 1
    have hs : IntOp.subi 2122317824#32 (field g) = field (253 - g) := by
      apply BitVec.eq_of_toNat_eq
      show (2122317824#32 - field g).toNat = _
      rw [BitVec.toNat_sub, toNat_field, toNat_field, BitVec.toNat_ofNat]
      omega
    rw [ha, hs, lit_exp _ (by omega) (by omega), lit_exp _ (by omega) (by omega)]
    constructor
    · show _ = _
      rw [hexp]
      show (((2 : ℝ) ^ _ : ℝ) : EReal) = _
      congr 2
      push_cast; ring
    · rw [zero_sub, ← EReal.coe_neg, ← Int.cast_neg, hexp]
      show (((2 : ℝ) ^ _ : ℝ) : EReal) = _
      congr 2
      omega
  · have hx : x < (((2 : ℝ) ^ (-126 : ℤ) : ℝ) : EReal) := by
      exact not_le.mp (fun h' => h (h1.mp h'))
    have hg0 : g = 0 := by omega
    subst hg0
    rw [if_pos hx]
    have hc : IntOp.cmpi .eq (field 0) 0#32 = 1#1 := by
      rw [← eq_field 0#32 0 (by decide)]; rfl
    rw [hc, sub_zero]
    have : Ideal.exp2 0 = ((1 : ℝ) : EReal) := by
      have := hexp 0
      simpa using this
    rw [this]
    exact ⟨rfl, rfl⟩

theorem ws_eq (f : Fin 128 → EReal) : wsK f = wsR f := (scale_eq (wtop f)).1

theorem wc_eq (f : Fin 128 → EReal) (j : Fin 128) : wcK f j = wcR f j := by
  unfold wcK wcR winvK
  rw [(scale_eq (wtop f)).2]

end Cert.Spec
-- ==== Proof.Row.lean ====
/-
  One row of the step: 8192 weights, gradients and moment codes, 64 groups of 128 columns, and what the
  step makes of them. Both programs are shown to compute this of every row of their arrays.
-/
module

public import proofs.«01_k».proof.Proof.Spec

@[expose] public section

noncomputable section

open Idealize.ShloMosaic

namespace Cert.Spec

/-- What the step reads for one row. -/
structure Row where
  /-- the weights -/
  w : Fin 8192 → EReal
  /-- the gradients -/
  g : Fin 8192 → EReal
  /-- the first moment's codes, scales and exponents -/
  mc : Fin 8192 → EReal
  ms : Fin 64 → EReal
  me : Fin 64 → EReal
  /-- the second moment's codes, scales and exponents -/
  vc : Fin 8192 → EReal
  vs : Fin 64 → EReal
  ve : Fin 64 → EReal
  /-- the learning rate, the weight decay, the small constant and the two bias corrections -/
  lr : EReal
  wd : EReal
  eps : EReal
  bc1 : EReal
  bc2 : EReal

/-- Column `j` of group `n`. -/
def col (n : Fin 64) (j : Fin 128) : Fin 8192 := ⟨128 * n.val + j.val, by omega⟩

/-- The group of a column. -/
def grp (q : Fin 8192) : Fin 64 := ⟨q.val / 128, by omega⟩

/-- The place of a column in its group. -/
def lane (q : Fin 8192) : Fin 128 := ⟨q.val % 128, by omega⟩

theorem col_grp_lane (q : Fin 8192) : col (grp q) (lane q) = q := Fin.ext (Nat.div_add_mod q.val 128)

namespace Row

variable (R : Row)

/-- The new first moment of a group. -/
def m (n : Fin 64) (j : Fin 128) : EReal := mNew (deqR (R.mc (col n j)) (R.ms n) (R.me n)) (R.g (col n j))

/-- The new second moment of a group. -/
def v (n : Fin 64) (j : Fin 128) : EReal := vNew (deqR (R.vc (col n j)) (R.vs n) (R.ve n)) (R.g (col n j))

/-- The update of a group's weights. -/
def u (n : Fin 64) (j : Fin 128) : EReal := upd R.lr R.wd R.eps R.bc1 R.bc2 (R.m n j) (R.v n j) (R.w (col n j))

/-- The new weights of a group. -/
def x (n : Fin 64) (j : Fin 128) : EReal := R.w (col n j) + R.u n j

/-! The ten results. -/

def wn (q : Fin 8192) : EReal := R.x (grp q) (lane q)
def up (q : Fin 8192) : EReal := R.u (grp q) (lane q)
def mco (q : Fin 8192) : EReal := qcR (R.m (grp q)) (lane q)
def mso (n : Fin 64) : EReal := qscale (R.m n)
def mko (n : Fin 64) : EReal := qkR (R.m n)
def vco (q : Fin 8192) : EReal := qcR (R.v (grp q)) (lane q)
def vso (n : Fin 64) : EReal := qscale (R.v n)
def vko (n : Fin 64) : EReal := qkR (R.v n)
def wc (q : Fin 8192) : EReal := wcR (R.x (grp q)) (lane q)
def ws (n : Fin 64) : EReal := wsR (R.x n)

end Row

end Cert.Spec
-- ==== Proof.Block.lean ====
/-
  What one grid point leaves in its ten output blocks, on the extended reals: row by row, the step of `Row`
  on the rows of its input blocks.
-/
module

public import proofs.«01_k».proof.Proof.GroupValue
public import proofs.«01_k».proof.Proof.SpecEq
public import proofs.«01_k».proof.Proof.Row

@[expose] public section

set_option maxRecDepth 16384

noncomputable section

namespace Cert.KernelIdeal.Grp

open Cert.KernelIdeal Cert.KernelIdeal.Gen Cert.Spec Idealize.ShloMosaic Idealize.ShloMosaic.TcCoe Idealize.ShloMosaic.ValueIdx

local notation "F" => Ideal

/-! ## Reading the stores back -/

theorem read_tiles {e : EltTy} (v : View sig .tc .vmem S1x32x8192 e) (f : v.ty.Contents (Elt F)) (P : Fin 64 → S1x32x128.Idx → Elt F e)
    (r : Fin 32) (q : Fin 8192) :
    v.read (Elt F) (v.writes (Elt F) f (View.tilePieces (s := S1x32x8192) S1x32x128.size (fun n : Fin 64 => ![0, 0, 128 * n.val]) inbB P 64 le_rfl))
      (ix3 (0 : Fin 1) r q) = P (grp q) (ix3 (0 : Fin 1) r (lane q)) := by
  refine View.read_tilePieces v f S1x32x128.size _ inbB P 64 le_rfl _ (grp q) (grp q).isLt (ix3 (0 : Fin 1) r (lane q)) (fun a => ?_) (2 : Fin 3) (fun n hn => ?_)
  · match a with
    | ⟨0, _⟩ => rfl
    | ⟨1, _⟩ => show r.val = 0 + r.val; omega
    | ⟨2, _⟩ => exact (Nat.div_add_mod q.val 128).symm
  · show q.val < 128 * n.val ∨ 128 * n.val + 128 ≤ q.val
    have : n.val ≠ q.val / 128 := fun h => hn (Fin.ext h)
    omega

theorem read_whole {e : EltTy} (v : View sig .tc .vmem S1x32x64 e) (f : v.ty.Contents (Elt F)) (w : S1x32x64.Idx → Elt F e) (y : S1x32x64.Idx) :
    v.read (Elt F) (v.writes (Elt F) f [⟨Rect.unit (s := S1x32x64) ![0, 0, 0] S1x32x64.size inb_S1x32x64_S1x32x64_0_0_0, w⟩]) y = w y :=
  View.read_writes_cons_unit_of_mem v f _ w [] y y rfl fun a => by
    match a with
    | ⟨0, _⟩ => exact (Nat.zero_add _).symm
    | ⟨1, _⟩ => exact (Nat.zero_add _).symm
    | ⟨2, _⟩ => exact (Nat.zero_add _).symm

/-- A statistics block, read at row `r` and group `n`. -/
theorem read_stat (f : Fin 64 → FVec F S32x1 .f32) (h) (r : Fin 32) (n : Fin 64) :
    shapeCast S1x32x64 (stat f 64 le_rfl) h (ix3 (0 : Fin 1) r n) = f n (ix2 r (0 : Fin 1)) := by
  rw [cast_out64, stat_apply f r n 64 le_rfl n.isLt]

/-- Row `r` of the blocks of a grid point of weight array `b`. -/
def brow (b : Fin 2) (x0 : Vec F S7 .f32) (x1 : Vec F S1x32x8192 .f32) (x2 : Vec F S1x32x8192 .bf16) (x3 : Vec F S1x32x8192 .fp8e4m3) (x4 : Vec F S1x32x64 .f32) (x5 : Vec F S1x32x64 .f32) (x6 : Vec F S1x32x8192 .fp8e4m3) (x7 : Vec F S1x32x64 .f32) (x8 : Vec F S1x32x64 .f32)
    (r : Fin 32) : Row where
  w := fun q => x1 (ix3 (0 : Fin 1) r q)
  g := fun q => x2 (ix3 (0 : Fin 1) r q)
  mc := fun q => x3 (ix3 (0 : Fin 1) r q)
  ms := fun n => x4 (ix3 (0 : Fin 1) r n)
  me := fun n => x5 (ix3 (0 : Fin 1) r n)
  vc := fun q => x6 (ix3 (0 : Fin 1) r q)
  vs := fun n => x7 (ix3 (0 : Fin 1) r n)
  ve := fun n => x8 (ix3 (0 : Fin 1) r n)
  lr := x0 (ix1 (⟨b.val, by omega⟩ : Fin 7))
  wd := x0 (ix1 (⟨b.val + 2, by omega⟩ : Fin 7))
  eps := x0 (ix1 (4 : Fin 7))
  bc1 := x0 (ix1 (5 : Fin 7))
  bc2 := x0 (ix1 (6 : Fin 7))

variable (c : Dev nD) (i : grid0.Coords)
  (arg2 : Memref sig .tc .smem S7 .f32) (harg2 : arg2.IsWhole)
  (arg3 : Memref sig .tc .vmem S1x32x8192 .f32) (harg3 : arg3.IsWhole)
  (arg4 : Memref sig .tc .vmem S1x32x8192 .bf16) (harg4 : arg4.IsWhole)
  (arg5 : Memref sig .tc .vmem S1x32x8192 .fp8e4m3) (harg5 : arg5.IsWhole)
  (arg6 : Memref sig .tc .vmem S1x32x64 .f32) (harg6 : arg6.IsWhole)
  (arg7 : Memref sig .tc .vmem S1x32x64 .f32) (harg7 : arg7.IsWhole)
  (arg8 : Memref sig .tc .vmem S1x32x8192 .fp8e4m3) (harg8 : arg8.IsWhole)
  (arg9 : Memref sig .tc .vmem S1x32x64 .f32) (harg9 : arg9.IsWhole)
  (arg10 : Memref sig .tc .vmem S1x32x64 .f32) (harg10 : arg10.IsWhole)
  (arg11 : Memref sig .tc .vmem S1x32x8192 .f32) (harg11 : arg11.IsWhole)
  (arg12 : Memref sig .tc .vmem S1x32x8192 .f32) (harg12 : arg12.IsWhole)
  (arg13 : Memref sig .tc .vmem S1x32x8192 .fp8e4m3) (harg13 : arg13.IsWhole)
  (arg14 : Memref sig .tc .vmem S1x32x64 .f32) (harg14 : arg14.IsWhole)
  (arg15 : Memref sig .tc .vmem S1x32x64 .f32) (harg15 : arg15.IsWhole)
  (arg16 : Memref sig .tc .vmem S1x32x8192 .fp8e4m3) (harg16 : arg16.IsWhole)
  (arg17 : Memref sig .tc .vmem S1x32x64 .f32) (harg17 : arg17.IsWhole)
  (arg18 : Memref sig .tc .vmem S1x32x64 .f32) (harg18 : arg18.IsWhole)
  (arg19 : Memref sig .tc .vmem S1x32x8192 .fp8e4m3) (harg19 : arg19.IsWhole)
  (arg20 : Memref sig .tc .vmem S1x32x64 .f32) (harg20 : arg20.IsWhole)
    (x0 : Vec F S7 .f32) (x1 : Vec F S1x32x8192 .f32) (x2 : Vec F S1x32x8192 .bf16) (x3 : Vec F S1x32x8192 .fp8e4m3) (x4 : Vec F S1x32x64 .f32) (x5 : Vec F S1x32x64 .f32) (x6 : Vec F S1x32x8192 .fp8e4m3) (x7 : Vec F S1x32x64 .f32) (x8 : Vec F S1x32x64 .f32)

/-- The weight array of the grid point. -/
def arr (i : grid0.Coords) : Fin 2 := ⟨(i 0).val, (i 0).isLt⟩

theorem mG_apply (n : Fin 64) (r : Fin 32) (j : Fin 128) :
    mG arg4 harg4 arg5 harg5 arg6 harg6 arg7 harg7 x2 x3 x4 x5 n (ix2 r j) = (brow (arr i) x0 x1 x2 x3 x4 x5 x6 x7 x8 r).m n j := by
  rw [mG, mom_apply, small_apply, small_apply, big_apply _ _ _ _ _ _ (col n j) rfl, big_apply _ _ _ _ _ _ (col n j) rfl, deq_eq]
  rfl

theorem vG_apply (n : Fin 64) (r : Fin 32) (j : Fin 128) :
    vG arg4 harg4 arg8 harg8 arg9 harg9 arg10 harg10 x2 x6 x7 x8 n (ix2 r j) = (brow (arr i) x0 x1 x2 x3 x4 x5 x6 x7 x8 r).v n j := by
  rw [vG, vel_apply, small_apply, small_apply, big_apply _ _ _ _ _ _ (col n j) rfl, big_apply _ _ _ _ _ _ (col n j) rfl, deq_eq]
  rfl

theorem lr_eq : scal arg2 harg2 x0 (k0_off1 i) (k0_off1_inb i) = (brow (arr i) x0 x1 x2 x3 x4 x5 x6 x7 x8 0).lr :=
  scal_apply _ _ _ _ _ _ (congrFun (k0_off1_eq i) 0).symm

theorem wd_eq : scal arg2 harg2 x0 (k0_off2 i) (k0_off2_inb i) = (brow (arr i) x0 x1 x2 x3 x4 x5 x6 x7 x8 0).wd :=
  scal_apply _ _ _ _ _ _ (congrFun (k0_off2_eq i) 0).symm

theorem uG_apply (n : Fin 64) (r : Fin 32) (j : Fin 128) :
    uG i arg2 harg2 arg3 harg3 arg4 harg4 arg5 harg5 arg6 harg6 arg7 harg7 arg8 harg8 arg9 harg9 arg10 harg10 x0 x1 x2 x3 x4 x5 x6 x7 x8 n (ix2 r j) = (brow (arr i) x0 x1 x2 x3 x4 x5 x6 x7 x8 r).u n j := by
  rw [uG, upd_apply, mG_apply i arg4 harg4 arg5 harg5 arg6 harg6 arg7 harg7 x0 x1 x2 x3 x4 x5 x6 x7 x8, vG_apply i arg4 harg4 arg8 harg8 arg9 harg9 arg10 harg10 x0 x1 x2 x3 x4 x5 x6 x7 x8, big_apply _ _ _ _ _ _ (col n j) rfl, lr_eq i arg2 harg2 x0 x1 x2 x3 x4 x5 x6 x7 x8, wd_eq i arg2 harg2 x0 x1 x2 x3 x4 x5 x6 x7 x8,
    scal_apply arg2 harg2 x0 ![4] _ 4 rfl, scal_apply arg2 harg2 x0 ![5] _ 5 rfl, scal_apply arg2 harg2 x0 ![6] _ 6 rfl]
  rfl

theorem wG_apply (n : Fin 64) (r : Fin 32) (j : Fin 128) :
    wG i arg2 harg2 arg3 harg3 arg4 harg4 arg5 harg5 arg6 harg6 arg7 harg7 arg8 harg8 arg9 harg9 arg10 harg10 x0 x1 x2 x3 x4 x5 x6 x7 x8 n (ix2 r j) = (brow (arr i) x0 x1 x2 x3 x4 x5 x6 x7 x8 r).x n j := by
  have h := uG_apply i arg2 harg2 arg3 harg3 arg4 harg4 arg5 harg5 arg6 harg6 arg7 harg7 arg8 harg8 arg9 harg9 arg10 harg10 x0 x1 x2 x3 x4 x5 x6 x7 x8 n r j
  unfold uG at h
  rw [upd_apply] at h
  rw [wG, wnew_apply, h, big_apply _ _ _ _ _ _ (col n j) rfl]
  rfl

/-! ## The ten blocks -/

theorem block9 (r : Fin 32) (q : Fin 8192) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 (ix3 (0 : Fin 1) r q) = (brow (arr i) x0 x1 x2 x3 x4 x5 x6 x7 x8 r).wn q := by
  unfold out0_A_9
  rw [list9]
  rw [read_tiles, cast_out]
  exact wG_apply i arg2 harg2 arg3 harg3 arg4 harg4 arg5 harg5 arg6 harg6 arg7 harg7 arg8 harg8 arg9 harg9 arg10 harg10 x0 x1 x2 x3 x4 x5 x6 x7 x8 (grp q) r (lane q)

theorem block10 (r : Fin 32) (q : Fin 8192) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 (ix3 (0 : Fin 1) r q) = (brow (arr i) x0 x1 x2 x3 x4 x5 x6 x7 x8 r).up q := by
  unfold out0_A_10
  rw [list10]
  rw [read_tiles, cast_out]
  exact uG_apply i arg2 harg2 arg3 harg3 arg4 harg4 arg5 harg5 arg6 harg6 arg7 harg7 arg8 harg8 arg9 harg9 arg10 harg10 x0 x1 x2 x3 x4 x5 x6 x7 x8 (grp q) r (lane q)

theorem block11 (r : Fin 32) (q : Fin 8192) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 (ix3 (0 : Fin 1) r q) = (brow (arr i) x0 x1 x2 x3 x4 x5 x6 x7 x8 r).mco q := by
  unfold out0_A_11
  rw [list11]
  rw [read_tiles, qc_apply, qc_eq]
  exact congrArg (fun f => qcR f (lane q)) (funext fun j => mG_apply i arg4 harg4 arg5 harg5 arg6 harg6 arg7 harg7 x0 x1 x2 x3 x4 x5 x6 x7 x8 _ r j)

theorem block12 (r : Fin 32) (n : Fin 64) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 (ix3 (0 : Fin 1) r n) = (brow (arr i) x0 x1 x2 x3 x4 x5 x6 x7 x8 r).mso n := by
  unfold out0_A_12
  rw [list12]
  rw [read_whole, read_stat, qs_apply]
  exact congrArg qscale (funext fun j => mG_apply i arg4 harg4 arg5 harg5 arg6 harg6 arg7 harg7 x0 x1 x2 x3 x4 x5 x6 x7 x8 _ r j)

theorem block13 (r : Fin 32) (n : Fin 64) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 (ix3 (0 : Fin 1) r n) = (brow (arr i) x0 x1 x2 x3 x4 x5 x6 x7 x8 r).mko n := by
  unfold out0_A_13
  rw [list13]
  rw [read_whole, read_stat, qk_apply, qk_eq]
  exact congrArg qkR (funext fun j => mG_apply i arg4 harg4 arg5 harg5 arg6 harg6 arg7 harg7 x0 x1 x2 x3 x4 x5 x6 x7 x8 _ r j)

theorem block14 (r : Fin 32) (q : Fin 8192) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 (ix3 (0 : Fin 1) r q) = (brow (arr i) x0 x1 x2 x3 x4 x5 x6 x7 x8 r).vco q := by
  unfold out0_A_14
  rw [list14]
  rw [read_tiles, qc_apply, qc_eq]
  exact congrArg (fun f => qcR f (lane q)) (funext fun j => vG_apply i arg4 harg4 arg8 harg8 arg9 harg9 arg10 harg10 x0 x1 x2 x3 x4 x5 x6 x7 x8 _ r j)

theorem block15 (r : Fin 32) (n : Fin 64) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 (ix3 (0 : Fin 1) r n) = (brow (arr i) x0 x1 x2 x3 x4 x5 x6 x7 x8 r).vso n := by
  unfold out0_A_15
  rw [list15]
  rw [read_whole, read_stat, qs_apply]
  exact congrArg qscale (funext fun j => vG_apply i arg4 harg4 arg8 harg8 arg9 harg9 arg10 harg10 x0 x1 x2 x3 x4 x5 x6 x7 x8 _ r j)

theorem block16 (r : Fin 32) (n : Fin 64) :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 (ix3 (0 : Fin 1) r n) = (brow (arr i) x0 x1 x2 x3 x4 x5 x6 x7 x8 r).vko n := by
  unfold out0_A_16
  rw [list16]
  rw [read_whole, read_stat, qk_apply, qk_eq]
  exact congrArg qkR (funext fun j => vG_apply i arg4 harg4 arg8 harg8 arg9 harg9 arg10 harg10 x0 x1 x2 x3 x4 x5 x6 x7 x8 _ r j)

theorem block17 (r : Fin 32) (q : Fin 8192) :
    out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 (ix3 (0 : Fin 1) r q) = (brow (arr i) x0 x1 x2 x3 x4 x5 x6 x7 x8 r).wc q := by
  unfold out0_A_17
  rw [list17]
  rw [read_tiles, wc_apply, wc_eq]
  exact congrArg (fun f => wcR f (lane q)) (funext fun j => wG_apply i arg2 harg2 arg3 harg3 arg4 harg4 arg5 harg5 arg6 harg6 arg7 harg7 arg8 harg8 arg9 harg9 arg10 harg10 x0 x1 x2 x3 x4 x5 x6 x7 x8 _ r j)

theorem block18 (r : Fin 32) (n : Fin 64) :
    out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 (ix3 (0 : Fin 1) r n) = (brow (arr i) x0 x1 x2 x3 x4 x5 x6 x7 x8 r).ws n := by
  unfold out0_A_18
  rw [list18]
  rw [read_whole, read_stat, ws_apply, ws_eq]
  exact congrArg wsR (funext fun j => wG_apply i arg2 harg2 arg3 harg3 arg4 harg4 arg5 harg5 arg6 harg6 arg7 harg7 arg8 harg8 arg9 harg9 arg10 harg10 x0 x1 x2 x3 x4 x5 x6 x7 x8 _ r j)

end Cert.KernelIdeal.Grp
-- ==== Proof.Arrays.lean ====
/-
  The rows of whole arrays: two weight arrays of 3584 rows, and the scalars of the step from its arguments.
-/
module

public import proofs.«01_k».proof.Proof.Row
public import Idealize.ShloMosaic.Lib.ValueIdx

@[expose] public section

noncomputable section

open Idealize.ShloMosaic Idealize.ShloMosaic.ValueIdx

namespace Cert.Spec

/-- A bias correction: one over one less a power of the decay. -/
def bcorr (b : BitVec 32) (h : (⟨1, ![1]⟩ : Shape).ShapeCasts ⟨0, ![]⟩) (T : (⟨1, ![1]⟩ : Shape).Idx → BitVec 32) :
    (⟨0, ![]⟩ : Shape).Idx → EReal :=
  Host.divf (F := Ideal) (φ := .f32) (constant ⟨0, ![]⟩ .f32 0x3F800000#32)
    (subf (constant ⟨0, ![]⟩ .f32 0x3F800000#32)
      (Host.powf (constant ⟨0, ![]⟩ .f32 b) (sitofp .f32 (shapeCast ⟨0, ![]⟩ T h))))

/-- Row `r` of weight array `b`, with that array's scalars. -/
def arow (W G MC : (⟨3, ![2, 3584, 8192]⟩ : Shape).Idx → EReal) (MS MK : (⟨3, ![2, 3584, 64]⟩ : Shape).Idx → EReal)
    (VC : (⟨3, ![2, 3584, 8192]⟩ : Shape).Idx → EReal) (VS VK : (⟨3, ![2, 3584, 64]⟩ : Shape).Idx → EReal)
    (LR WD : (⟨1, ![2]⟩ : Shape).Idx → EReal) (EPS : (⟨1, ![1]⟩ : Shape).Idx → EReal) (T : (⟨1, ![1]⟩ : Shape).Idx → BitVec 32)
    (h : (⟨1, ![1]⟩ : Shape).ShapeCasts ⟨0, ![]⟩) (b : Fin 2) (r : Fin 3584) : Row where
  w := fun q => W (ix3 b r q)
  g := fun q => G (ix3 b r q)
  mc := fun q => MC (ix3 b r q)
  ms := fun n => MS (ix3 b r n)
  me := fun n => MK (ix3 b r n)
  vc := fun q => VC (ix3 b r q)
  vs := fun n => VS (ix3 b r n)
  ve := fun n => VK (ix3 b r n)
  lr := LR (ix1 b)
  wd := WD (ix1 b)
  eps := EPS (ix1 (0 : Fin 1))
  bc1 := bcorr 0x3F666666#32 h T fun a => a.elim0
  bc2 := bcorr 0x3F733333#32 h T fun a => a.elim0

end Cert.Spec
-- ==== Proof.KernelHost.lean ====
/-
  The seven scalars the kernel is launched with: two learning rates, two weight decays, the small constant
  and the two bias corrections.
-/
module

public import proofs.«01_k».proof.Proof.Gen.KernelIdeal.Value
public import proofs.«01_k».proof.Proof.Arrays
public import Idealize.ShloMosaic.Lib.Pipeline.ValueKit
public import Idealize.ShloMosaic.Lib.Claim
public import Idealize.ShloMosaic.Lib.StableHlo.RunRead

@[expose] public section

set_option maxRecDepth 16384
set_option maxHeartbeats 0

noncomputable section

namespace Cert.KernelIdeal.Arr

open Cert.KernelIdeal Cert.KernelIdeal.Gen Cert.Spec Idealize.ShloMosaic Idealize.ShloMosaic.TcCoe

variable (m : (ℓ : Loc nD τ sig) → Buf (Elt Ideal) ℓ)

theorem scal_host (c : Dev nD) : V m c main_v10
    = concatenate S7 0 [⟨S2, (m ((c : Thread nD τ).loc main_arg8) : FVec Ideal S2 .f32)⟩, ⟨S2, (m ((c : Thread nD τ).loc main_arg9) : FVec Ideal S2 .f32)⟩,
        ⟨S1, (m ((c : Thread nD τ).loc main_arg10) : FVec Ideal S1 .f32)⟩,
        ⟨S1, broadcastInDim S1 ![] bcast_S_S1 (bcorr 0x3F666666#32 shapeCasts_S1_S_ (m ((c : Thread nD τ).loc main_arg11)))⟩,
        ⟨S1, broadcastInDim S1 ![] bcast_S_S1 (bcorr 0x3F733333#32 shapeCasts_S1_S_ (m ((c : Thread nD τ).loc main_arg11)))⟩]
      concatenates_S2_S2_S1_S1_S1_S7_d0 := by
  after_reads_simp
  rfl

theorem scal_lr (c : Dev nD) (b : Fin 2) : (V m c main_v10 : FVec Ideal S7 .f32) (ix1 (⟨b.val, by omega⟩ : Fin 7))
    = (m ((c : Thread nD τ).loc main_arg8) : FVec Ideal S2 .f32) (ix1 b) := by
  rw [scal_host]
  exact concatenate_apply_piece (t := S7) 0 _ _ _ 0 (by simp) S2 _ rfl rfl 0 rfl (ix1 b)
    (fun b hb => absurd (Subsingleton.elim _ _) hb) (by simp [ix1, Nat.add_comm])

theorem scal_wd (c : Dev nD) (b : Fin 2) : (V m c main_v10 : FVec Ideal S7 .f32) (ix1 (⟨b.val + 2, by omega⟩ : Fin 7))
    = (m ((c : Thread nD τ).loc main_arg9) : FVec Ideal S2 .f32) (ix1 b) := by
  rw [scal_host]
  exact concatenate_apply_piece (t := S7) 0 _ _ _ 1 (by simp) S2 _ rfl rfl 2 rfl (ix1 b)
    (fun b hb => absurd (Subsingleton.elim _ _) hb) (by simp [ix1, Nat.add_comm])

theorem scal_eps (c : Dev nD) : (V m c main_v10 : FVec Ideal S7 .f32) (ix1 (4 : Fin 7))
    = (m ((c : Thread nD τ).loc main_arg10) : FVec Ideal S1 .f32) (ix1 (0 : Fin 1)) := by
  rw [scal_host]
  exact concatenate_apply_piece (t := S7) 0 _ _ _ 2 (by simp) S1 _ rfl rfl 4 rfl (ix1 (0 : Fin 1))
    (fun b hb => absurd (Subsingleton.elim _ _) hb) (by simp [ix1])

theorem scal_bc1 (c : Dev nD) : (V m c main_v10 : FVec Ideal S7 .f32) (ix1 (5 : Fin 7))
    = bcorr 0x3F666666#32 shapeCasts_S1_S_ (m ((c : Thread nD τ).loc main_arg11)) (fun a => a.elim0) := by
  rw [scal_host]
  refine (concatenate_apply_piece (t := S7) 0 _ _ _ 3 (by simp) S1 _ rfl rfl 5 rfl (ix1 (0 : Fin 1))
    (fun b hb => absurd (Subsingleton.elim _ _) hb) (by simp [ix1])).trans ?_
  unfold broadcastInDim
  exact congrArg _ (funext fun a => a.elim0)

theorem scal_bc2 (c : Dev nD) : (V m c main_v10 : FVec Ideal S7 .f32) (ix1 (6 : Fin 7))
    = bcorr 0x3F733333#32 shapeCasts_S1_S_ (m ((c : Thread nD τ).loc main_arg11)) (fun a => a.elim0) := by
  rw [scal_host]
  refine (concatenate_apply_piece (t := S7) 0 _ _ _ 4 (by simp) S1 _ rfl rfl 6 rfl (ix1 (0 : Fin 1))
    (fun b hb => absurd (Subsingleton.elim _ _) hb) (by simp [ix1])).trans ?_
  unfold broadcastInDim
  exact congrArg _ (funext fun a => a.elim0)

end Cert.KernelIdeal.Arr
-- ==== Proof.KernelArray.lean ====
/-
  The arrays the kernel leaves: each grid point's blocks are 32 rows of the whole arrays.
-/
module

public import proofs.«01_k».proof.Proof.Block
public import proofs.«01_k».proof.Proof.KernelHost

@[expose] public section

set_option maxRecDepth 16384

noncomputable section

namespace Cert.KernelIdeal.Arr

open Cert.KernelIdeal Cert.KernelIdeal.Gen Cert.KernelIdeal.Grp Cert.Spec
open Idealize.ShloMosaic Idealize.ShloMosaic.TcCoe

variable (m : (ℓ : Loc nD τ sig) → Buf (Elt Ideal) ℓ)

/-- Row `r` of weight array `b` among the kernel's arguments on core `c`. -/
def krow (c : Dev nD) (b : Fin 2) (r : Fin 3584) : Row :=
  arow (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    shapeCasts_S1_S_ b r

/-- The weight array of a grid point, and the row of it that row `r` of the point's blocks is. -/
def gb (t : Fin cfg0.N) : Fin 2 := ⟨(grid0.coords t 0).val, (grid0.coords t 0).isLt⟩
def gr (t : Fin cfg0.N) (r : Fin 32) : Fin 3584 :=
  ⟨32 * (grid0.coords t 1).val + r.val, by have h : (grid0.coords t 1).val < 112 := (grid0.coords t 1).isLt; omega⟩

/-- Which block of each array a grid point takes. -/
theorem idx : ∀ t : Fin cfg0.N, win0_0.index t = ![0] ∧
    win0_1.index t = ![(grid0.coords t 0).val, (grid0.coords t 1).val, 0] ∧
    win0_2.index t = ![(grid0.coords t 0).val, (grid0.coords t 1).val, 0] ∧
    win0_3.index t = ![(grid0.coords t 0).val, (grid0.coords t 1).val, 0] ∧
    win0_4.index t = ![(grid0.coords t 0).val, (grid0.coords t 1).val, 0] ∧
    win0_5.index t = ![(grid0.coords t 0).val, (grid0.coords t 1).val, 0] ∧
    win0_6.index t = ![(grid0.coords t 0).val, (grid0.coords t 1).val, 0] ∧
    win0_7.index t = ![(grid0.coords t 0).val, (grid0.coords t 1).val, 0] ∧
    win0_8.index t = ![(grid0.coords t 0).val, (grid0.coords t 1).val, 0] ∧
    win0_9.index t = ![(grid0.coords t 0).val, (grid0.coords t 1).val, 0] ∧
    win0_10.index t = ![(grid0.coords t 0).val, (grid0.coords t 1).val, 0] ∧
    win0_11.index t = ![(grid0.coords t 0).val, (grid0.coords t 1).val, 0] ∧
    win0_12.index t = ![(grid0.coords t 0).val, (grid0.coords t 1).val, 0] ∧
    win0_13.index t = ![(grid0.coords t 0).val, (grid0.coords t 1).val, 0] ∧
    win0_14.index t = ![(grid0.coords t 0).val, (grid0.coords t 1).val, 0] ∧
    win0_15.index t = ![(grid0.coords t 0).val, (grid0.coords t 1).val, 0] ∧
    win0_16.index t = ![(grid0.coords t 0).val, (grid0.coords t 1).val, 0] ∧
    win0_17.index t = ![(grid0.coords t 0).val, (grid0.coords t 1).val, 0] ∧
    win0_18.index t = ![(grid0.coords t 0).val, (grid0.coords t 1).val, 0] :=
  (by decide +kernel : ∀ t : Fin grid0.N, _)

theorem in1 (c : Dev nD) (t : Fin cfg0.N) (r : Fin 32) (q : Fin 8192) :
    (iblk m c 1 t : FVec Ideal S1x32x8192 .f32) (ix3 (0 : Fin 1) r q)
      = (m ((c : Thread nD τ).loc main_arg0) : FVec Ideal S2x3584x8192 .f32) (ix3 (gb t) (gr t r) q) := by
  refine Eq.trans ?_ (congrFun (V_main_arg0 m c) _)
  blk_ext [iblk, idx t, gb, gr]

theorem in2 (c : Dev nD) (t : Fin cfg0.N) (r : Fin 32) (q : Fin 8192) :
    (iblk m c 2 t : FVec Ideal S1x32x8192 .bf16) (ix3 (0 : Fin 1) r q)
      = (m ((c : Thread nD τ).loc main_arg1) : FVec Ideal S2x3584x8192 .bf16) (ix3 (gb t) (gr t r) q) := by
  refine Eq.trans ?_ (congrFun (V_main_arg1 m c) _)
  blk_ext [iblk, idx t, gb, gr]

theorem in3 (c : Dev nD) (t : Fin cfg0.N) (r : Fin 32) (q : Fin 8192) :
    (iblk m c 3 t : FVec Ideal S1x32x8192 .fp8e4m3) (ix3 (0 : Fin 1) r q)
      = (m ((c : Thread nD τ).loc main_arg2) : FVec Ideal S2x3584x8192 .fp8e4m3) (ix3 (gb t) (gr t r) q) := by
  refine Eq.trans ?_ (congrFun (V_main_arg2 m c) _)
  blk_ext [iblk, idx t, gb, gr]

theorem in4 (c : Dev nD) (t : Fin cfg0.N) (r : Fin 32) (q : Fin 64) :
    (iblk m c 4 t : FVec Ideal S1x32x64 .f32) (ix3 (0 : Fin 1) r q)
      = (m ((c : Thread nD τ).loc main_arg3) : FVec Ideal S2x3584x64 .f32) (ix3 (gb t) (gr t r) q) := by
  refine Eq.trans ?_ (congrFun (V_main_arg3 m c) _)
  blk_ext [iblk, idx t, gb, gr]

theorem in5 (c : Dev nD) (t : Fin cfg0.N) (r : Fin 32) (q : Fin 64) :
    (iblk m c 5 t : FVec Ideal S1x32x64 .f32) (ix3 (0 : Fin 1) r q)
      = (m ((c : Thread nD τ).loc main_arg4) : FVec Ideal S2x3584x64 .f32) (ix3 (gb t) (gr t r) q) := by
  refine Eq.trans ?_ (congrFun (V_main_arg4 m c) _)
  blk_ext [iblk, idx t, gb, gr]

theorem in6 (c : Dev nD) (t : Fin cfg0.N) (r : Fin 32) (q : Fin 8192) :
    (iblk m c 6 t : FVec Ideal S1x32x8192 .fp8e4m3) (ix3 (0 : Fin 1) r q)
      = (m ((c : Thread nD τ).loc main_arg5) : FVec Ideal S2x3584x8192 .fp8e4m3) (ix3 (gb t) (gr t r) q) := by
  refine Eq.trans ?_ (congrFun (V_main_arg5 m c) _)
  blk_ext [iblk, idx t, gb, gr]

theorem in7 (c : Dev nD) (t : Fin cfg0.N) (r : Fin 32) (q : Fin 64) :
    (iblk m c 7 t : FVec Ideal S1x32x64 .f32) (ix3 (0 : Fin 1) r q)
      = (m ((c : Thread nD τ).loc main_arg6) : FVec Ideal S2x3584x64 .f32) (ix3 (gb t) (gr t r) q) := by
  refine Eq.trans ?_ (congrFun (V_main_arg6 m c) _)
  blk_ext [iblk, idx t, gb, gr]

theorem in8 (c : Dev nD) (t : Fin cfg0.N) (r : Fin 32) (q : Fin 64) :
    (iblk m c 8 t : FVec Ideal S1x32x64 .f32) (ix3 (0 : Fin 1) r q)
      = (m ((c : Thread nD τ).loc main_arg7) : FVec Ideal S2x3584x64 .f32) (ix3 (gb t) (gr t r) q) := by
  refine Eq.trans ?_ (congrFun (V_main_arg7 m c) _)
  blk_ext [iblk, idx t, gb, gr]

theorem in0 (c : Dev nD) (t : Fin cfg0.N) (k : Fin 7) :
    (iblk m c 0 t : FVec Ideal S7 .f32) (ix1 k) = (V m c main_v10 : FVec Ideal S7 .f32) (ix1 k) := by
  blk_ext [iblk, idx t]

/-- Row `r` of a grid point's blocks is a row of the arguments. -/
theorem row_eq (c : Dev nD) (t : Fin cfg0.N) (r : Fin 32) :
    brow (arr (grid0.coords t)) (iblk m c 0 t) (iblk m c 1 t) (iblk m c 2 t) (iblk m c 3 t) (iblk m c 4 t) (iblk m c 5 t)
      (iblk m c 6 t) (iblk m c 7 t) (iblk m c 8 t) r = krow m c (gb t) (gr t r) := by
  unfold brow krow arow
  rw [Row.mk.injEq]
  refine ⟨funext fun q => in1 m c t r q, funext fun q => in2 m c t r q, funext fun q => in3 m c t r q,
    funext fun q => in4 m c t r q, funext fun q => in5 m c t r q, funext fun q => in6 m c t r q,
    funext fun q => in7 m c t r q, funext fun q => in8 m c t r q, ?_, ?_, ?_, ?_, ?_⟩
  · exact (in0 m c t _).trans (scal_lr m c (gb t))
  · exact (in0 m c t _).trans (scal_wd m c (gb t))
  · exact (in0 m c t _).trans (scal_eps m c)
  · exact (in0 m c t _).trans (scal_bc1 m c)
  · exact (in0 m c t _).trans (scal_bc2 m c)

theorem final9 (c : Dev nD) : (dats m 0 c).arrAt 9 cfg0.N
    = (fun j : S2x3584x8192.Idx => (krow m c (j 0) (j 1)).wn (j 2)) := by
  refine (dats m 0 c).arrAt_eq_of_covers 9 _ (by decide +kernel) fun t hf y => ?_
  blk_simp
  rw [after0_9]
  have e : ((cfg0.win 9).blk t).view.emb y = (ix3 (gb t) (gr t (y 1)) (y 2) : S2x3584x8192.Idx) := by
    blk_ext [idx t, gb, gr]
  have e' : y = (ix3 (0 : Fin 1) (y 1) (y 2) : S1x32x8192.Idx) := by blk_ext
  rw [e, e']
  simp only [outsAt0]
  refine (block9 _ _ _ _ _ _ _ _ _ _ _ _ _ _ _ _ _ _ _ _ _ _ _ _ _ _ _ _ _ _ _ _ _ _ _ _ _ _ _ _ _ _ _ _ _ _ _ _ _ _ _).trans ?_
  exact congrArg (fun R : Row => R.wn (y 2)) (row_eq m c t (y 1))

theorem final10 (c : Dev nD) : (dats m 0 c).arrAt 10 cfg0.N
    = (fun j : S2x3584x8192.Idx => (krow m c (j 0) (j 1)).up (j 2)) := by
  refine (dats m 0 c).arrAt_eq_of_covers 10 _ (by decide +kernel) fun t hf y => ?_
  blk_simp
  rw [after0_10]
  have e : ((cfg0.win 10).blk t).view.emb y = (ix3 (gb t) (gr t (y 1)) (y 2) : S2x3584x8192.Idx) := by
    blk_ext [idx t, gb, gr]
  have e' : y = (ix3 (0 : Fin 1) (y 1) (y 2) : S1x32x8192.Idx) := by blk_ext
  rw [e, e']
  simp only [outsAt0]
  refine (block10 _ _ _ _ _ _ _ _ _ _ _ _ _ _ _ _ _ _ _ _ _ _ _ _ _ _ _ _ _ _ _ _ _ _ _ _ _ _ _ _ _ _ _ _ _ _ _ _ _ _ _).trans ?_
  exact congrArg (fun R : Row => R.up (y 2)) (row_eq m c t (y 1))

theorem final11 (c : Dev nD) : (dats m 0 c).arrAt 11 cfg0.N
    = (fun j : S2x3584x8192.Idx => (krow m c (j 0) (j 1)).mco (j 2)) := by
  refine (dats m 0 c).arrAt_eq_of_covers 11 _ (by decide +kernel) fun t hf y => ?_
  blk_simp
  rw [after0_11]
  have e : ((cfg0.win 11).blk t).view.emb y = (ix3 (gb t) (gr t (y 1)) (y 2) : S2x3584x8192.Idx) := by
    blk_ext [idx t, gb, gr]
  have e' : y = (ix3 (0 : Fin 1) (y 1) (y 2) : S1x32x8192.Idx) := by blk_ext
  rw [e, e']
  simp only [outsAt0]
  refine (block11 _ _ _ _ _ _ _ _ _ _ _ _ _ _ _ _ _ _ _ _ _ _ _ _ _ _ _ _ _ _ _ _ _ _ _ _ _ _ _ _ _ _ _ _ _ _ _ _ _ _ _).trans ?_
  exact congrArg (fun R : Row => R.mco (y 2)) (row_eq m c t (y 1))

theorem final12 (c : Dev nD) : (dats m 0 c).arrAt 12 cfg0.N
    = (fun j : S2x3584x64.Idx => (krow m c (j 0) (j 1)).mso (j 2)) := by
  refine (dats m 0 c).arrAt_eq_of_covers 12 _ (by decide +kernel) fun t hf y => ?_
  blk_simp
  rw [after0_12]
  have e : ((cfg0.win 12).blk t).view.emb y = (ix3 (gb t) (gr t (y 1)) (y 2) : S2x3584x64.Idx) := by
    blk_ext [idx t, gb, gr]
  have e' : y = (ix3 (0 : Fin 1) (y 1) (y 2) : S1x32x64.Idx) := by blk_ext
  rw [e, e']
  simp only [outsAt0]
  refine (block12 _ _ _ _ _ _ _ _ _ _ _ _ _ _ _ _ _ _ _ _ _ _ _ _ _ _ _ _ _ _ _ _ _ _ _ _ _ _ _ _ _ _ _ _ _ _ _ _ _ _ _).trans ?_
  exact congrArg (fun R : Row => R.mso (y 2)) (row_eq m c t (y 1))

theorem final13 (c : Dev nD) : (dats m 0 c).arrAt 13 cfg0.N
    = (fun j : S2x3584x64.Idx => (krow m c (j 0) (j 1)).mko (j 2)) := by
  refine (dats m 0 c).arrAt_eq_of_covers 13 _ (by decide +kernel) fun t hf y => ?_
  blk_simp
  rw [after0_13]
  have e : ((cfg0.win 13).blk t).view.emb y = (ix3 (gb t) (gr t (y 1)) (y 2) : S2x3584x64.Idx) := by
    blk_ext [idx t, gb, gr]
  have e' : y = (ix3 (0 : Fin 1) (y 1) (y 2) : S1x32x64.Idx) := by blk_ext
  rw [e, e']
  simp only [outsAt0]
  refine (block13 _ _ _ _ _ _ _ _ _ _ _ _ _ _ _ _ _ _ _ _ _ _ _ _ _ _ _ _ _ _ _ _ _ _ _ _ _ _ _ _ _ _ _ _ _ _ _ _ _ _ _).trans ?_
  exact congrArg (fun R : Row => R.mko (y 2)) (row_eq m c t (y 1))

theorem final14 (c : Dev nD) : (dats m 0 c).arrAt 14 cfg0.N
    = (fun j : S2x3584x8192.Idx => (krow m c (j 0) (j 1)).vco (j 2)) := by
  refine (dats m 0 c).arrAt_eq_of_covers 14 _ (by decide +kernel) fun t hf y => ?_
  blk_simp
  rw [after0_14]
  have e : ((cfg0.win 14).blk t).view.emb y = (ix3 (gb t) (gr t (y 1)) (y 2) : S2x3584x8192.Idx) := by
    blk_ext [idx t, gb, gr]
  have e' : y = (ix3 (0 : Fin 1) (y 1) (y 2) : S1x32x8192.Idx) := by blk_ext
  rw [e, e']
  simp only [outsAt0]
  refine (block14 _ _ _ _ _ _ _ _ _ _ _ _ _ _ _ _ _ _ _ _ _ _ _ _ _ _ _ _ _ _ _ _ _ _ _ _ _ _ _ _ _ _ _ _ _ _ _ _ _ _ _).trans ?_
  exact congrArg (fun R : Row => R.vco (y 2)) (row_eq m c t (y 1))

theorem final15 (c : Dev nD) : (dats m 0 c).arrAt 15 cfg0.N
    = (fun j : S2x3584x64.Idx => (krow m c (j 0) (j 1)).vso (j 2)) := by
  refine (dats m 0 c).arrAt_eq_of_covers 15 _ (by decide +kernel) fun t hf y => ?_
  blk_simp
  rw [after0_15]
  have e : ((cfg0.win 15).blk t).view.emb y = (ix3 (gb t) (gr t (y 1)) (y 2) : S2x3584x64.Idx) := by
    blk_ext [idx t, gb, gr]
  have e' : y = (ix3 (0 : Fin 1) (y 1) (y 2) : S1x32x64.Idx) := by blk_ext
  rw [e, e']
  simp only [outsAt0]
  refine (block15 _ _ _ _ _ _ _ _ _ _ _ _ _ _ _ _ _ _ _ _ _ _ _ _ _ _ _ _ _ _ _ _ _ _ _ _ _ _ _ _ _ _ _ _ _ _ _ _ _ _ _).trans ?_
  exact congrArg (fun R : Row => R.vso (y 2)) (row_eq m c t (y 1))

theorem final16 (c : Dev nD) : (dats m 0 c).arrAt 16 cfg0.N
    = (fun j : S2x3584x64.Idx => (krow m c (j 0) (j 1)).vko (j 2)) := by
  refine (dats m 0 c).arrAt_eq_of_covers 16 _ (by decide +kernel) fun t hf y => ?_
  blk_simp
  rw [after0_16]
  have e : ((cfg0.win 16).blk t).view.emb y = (ix3 (gb t) (gr t (y 1)) (y 2) : S2x3584x64.Idx) := by
    blk_ext [idx t, gb, gr]
  have e' : y = (ix3 (0 : Fin 1) (y 1) (y 2) : S1x32x64.Idx) := by blk_ext
  rw [e, e']
  simp only [outsAt0]
  refine (block16 _ _ _ _ _ _ _ _ _ _ _ _ _ _ _ _ _ _ _ _ _ _ _ _ _ _ _ _ _ _ _ _ _ _ _ _ _ _ _ _ _ _ _ _ _ _ _ _ _ _ _).trans ?_
  exact congrArg (fun R : Row => R.vko (y 2)) (row_eq m c t (y 1))

theorem final17 (c : Dev nD) : (dats m 0 c).arrAt 17 cfg0.N
    = (fun j : S2x3584x8192.Idx => (krow m c (j 0) (j 1)).wc (j 2)) := by
  refine (dats m 0 c).arrAt_eq_of_covers 17 _ (by decide +kernel) fun t hf y => ?_
  blk_simp
  rw [after0_17]
  have e : ((cfg0.win 17).blk t).view.emb y = (ix3 (gb t) (gr t (y 1)) (y 2) : S2x3584x8192.Idx) := by
    blk_ext [idx t, gb, gr]
  have e' : y = (ix3 (0 : Fin 1) (y 1) (y 2) : S1x32x8192.Idx) := by blk_ext
  rw [e, e']
  simp only [outsAt0]
  refine (block17 _ _ _ _ _ _ _ _ _ _ _ _ _ _ _ _ _ _ _ _ _ _ _ _ _ _ _ _ _ _ _ _ _ _ _ _ _ _ _ _ _ _ _ _ _ _ _ _ _ _ _).trans ?_
  exact congrArg (fun R : Row => R.wc (y 2)) (row_eq m c t (y 1))

theorem final18 (c : Dev nD) : (dats m 0 c).arrAt 18 cfg0.N
    = (fun j : S2x3584x64.Idx => (krow m c (j 0) (j 1)).ws (j 2)) := by
  refine (dats m 0 c).arrAt_eq_of_covers 18 _ (by decide +kernel) fun t hf y => ?_
  blk_simp
  rw [after0_18]
  have e : ((cfg0.win 18).blk t).view.emb y = (ix3 (gb t) (gr t (y 1)) (y 2) : S2x3584x64.Idx) := by
    blk_ext [idx t, gb, gr]
  have e' : y = (ix3 (0 : Fin 1) (y 1) (y 2) : S1x32x64.Idx) := by blk_ext
  rw [e, e']
  simp only [outsAt0]
  refine (block18 _ _ _ _ _ _ _ _ _ _ _ _ _ _ _ _ _ _ _ _ _ _ _ _ _ _ _ _ _ _ _ _ _ _ _ _ _ _ _ _ _ _ _ _ _ _ _ _ _ _ _).trans ?_
  exact congrArg (fun R : Row => R.ws (y 2)) (row_eq m c t (y 1))

end Cert.KernelIdeal.Arr
-- ==== Proof.RefValue.lean ====
/-
  The reference on the extended reals: each value it computes, read at element `j` of group `n` of row `r`
  of weight array `b`, is the mathematics of `Spec`.
-/
module

public import proofs.«01_k».proof.Proof.Gen.ReferenceIdeal.Value
public import proofs.«01_k».proof.Proof.Arrays
public import Idealize.ShloMosaic.Lib.ValueIdx
public import Idealize.ShloMosaic.Lib.ValueLayout
public import Idealize.ShloMosaic.Lib.ValueLayoutCasts
public import Idealize.ShloMosaic.PureOps.Ideal.Laws
public import Idealize.ShloMosaic.Lib.Pipeline.ValueKit.Tiles

@[expose] public section

set_option maxRecDepth 16384

noncomputable section

namespace Cert.ReferenceIdeal.Val

open Cert.ReferenceIdeal Cert.ReferenceIdeal.Gen Cert.Spec Idealize.ShloMosaic Idealize.ShloMosaic.TcCoe Idealize.ShloMosaic.ValueIdx

/-! ## Pointwise operations -/

variable {s : Shape}

theorem absf_at (x : FVec Ideal s .f32) (i : s.Idx) : absf x i = ab (x i) := by
  rw [absf]
  rfl

theorem log_at (x : FVec Ideal s .f32) (i : s.Idx) : log x i = Ideal.log (x i) := by
  rw [log]
  rfl

theorem exp_at (x : FVec Ideal s .f32) (i : s.Idx) : exp x i = Ideal.exp (x i) := by
  rw [exp]
  rfl

theorem exp2_at (x : FVec Ideal s .f32) (i : s.Idx) : exp2 x i = Ideal.exp2 (x i) := by
  rw [exp2]
  rfl

theorem sqrt_at (x : FVec Ideal s .f32) (i : s.Idx) : sqrt x i = Ideal.sqrt (x i) := by
  rw [sqrt]
  rfl

theorem floor_at (x : FVec Ideal s .f32) (i : s.Idx) : floor x i = Ideal.liftRound Int.floor (x i) := by
  rw [floor]
  rfl

theorem addf_at (x y : FVec Ideal s .f32) (i : s.Idx) : addf x y i = x i + y i := by
  rw [addf_apply]

theorem subf_at (x y : FVec Ideal s .f32) (i : s.Idx) : subf x y i = x i - y i := by
  rw [subf_apply]

theorem mulf_at (x y : FVec Ideal s .f32) (i : s.Idx) : mulf x y i = x i * y i := by
  rw [mulf_apply]

theorem divf_at (x y : FVec Ideal s .f32) (i : s.Idx) : divf x y i = Ideal.div (x i) (y i) := by
  rw [divf_apply]

theorem minimumf_at (x y : FVec Ideal s .f32) (i : s.Idx) : minimumf x y i = min (x i) (y i) := by
  rw [minimumf_apply]

theorem maximumf_at (x y : FVec Ideal s .f32) (i : s.Idx) : maximumf x y i = max (x i) (y i) := by
  rw [maximumf_apply]

theorem cmpf_at (p : CmpFPredicate) (x y : FVec Ideal s .f32) (i : s.Idx) : cmpf p x y i = Ideal.cmp p (x i) (y i) := by
  rw [cmpf_apply]
  rfl

theorem select_at (c : IVec s 1) (x y : FVec Ideal s .f32) (i : s.Idx) : select c x y i = Scalar.select (c i) (x i) (y i) := by
  rw [select_apply]

theorem broadcast_at (x : EReal) (i : s.Idx) : broadcast s x i = x := by
  rw [broadcast_apply]

theorem truncf_at {ψ : FTy} (x : FVec Ideal s .f32) (h : ψ.bits < FTy.f32.bits) (i : s.Idx) : (truncf ψ x h : FVec Ideal s ψ) i = x i := by
  rw [truncf_apply]

/-! ## Layout -/

variable {α : Type} (b : Fin 2) (r : Fin 3584) (n : Fin 64) (j : Fin 128)

theorem cast_in (x : S2x3584x8192.Idx → α) (h) : shapeCast S2x3584x64x128 x h (ix4 b r n j) = x (ix3 b r (col n j)) :=
  shapeCast_apply x h _ _ (by
    rw [Shape.rowMajor_val_three, Shape.rowMajor_val_four]
    show (b.val * 3584 + r.val) * 8192 + (128 * n.val + j.val) = ((b.val * 3584 + r.val) * 64 + n.val) * 128 + j.val
    omega)

theorem cast_in1 (x : S2x3584x64.Idx → α) (h) (u : Fin 1) : shapeCast S2x3584x64x1 x h (ix4 b r n u) = x (ix3 b r n) :=
  shapeCast_apply x h _ _ (by
    rw [Shape.rowMajor_val_three, Shape.rowMajor_val_four]
    show (b.val * 3584 + r.val) * 64 + n.val = ((b.val * 3584 + r.val) * 64 + n.val) * 1 + u.val
    omega)

theorem cast_out (x : S2x3584x64x128.Idx → α) (h) (q : Fin 8192) :
    shapeCast S2x3584x8192 x h (ix3 b r q) = x (ix4 b r (grp q) (lane q)) :=
  shapeCast_apply x h _ _ (by
    rw [Shape.rowMajor_val_three, Shape.rowMajor_val_four]
    show ((b.val * 3584 + r.val) * 64 + q.val / 128) * 128 + q.val % 128 = (b.val * 3584 + r.val) * 8192 + q.val
    omega)

theorem cast_out1 (x : S2x3584x64x1.Idx → α) (h) : shapeCast S2x3584x64 x h (ix3 b r n) = x (ix4 b r n (0 : Fin 1)) :=
  shapeCast_apply x h _ _ (by
    rw [Shape.rowMajor_val_three, Shape.rowMajor_val_four]
    show ((b.val * 3584 + r.val) * 64 + n.val) * 1 + 0 = (b.val * 3584 + r.val) * 64 + n.val
    omega)

theorem bcast (x : S2x3584x64x1.Idx → α) (h) : broadcastTo S2x3584x64x128 x h (ix4 b r n j) = x (ix4 b r n (0 : Fin 1)) :=
  broadcastTo_apply x h _ _ fun a => match a with | ⟨0, _⟩ => rfl | ⟨1, _⟩ => rfl | ⟨2, _⟩ => rfl | ⟨3, _⟩ => rfl

theorem bcast2 (x : S2x1x1x1.Idx → α) (h) :
    broadcastTo S2x3584x64x128 x h (ix4 b r n j) = x (ix4 b (0 : Fin 1) (0 : Fin 1) (0 : Fin 1)) :=
  broadcastTo_apply x h _ _ fun a => match a with | ⟨0, _⟩ => rfl | ⟨1, _⟩ => rfl | ⟨2, _⟩ => rfl | ⟨3, _⟩ => rfl

theorem bcast1 (x : S1x1x1x1.Idx → α) (h) :
    broadcastTo S2x3584x64x128 x h (ix4 b r n j) = x (ix4 (0 : Fin 1) (0 : Fin 1) (0 : Fin 1) (0 : Fin 1)) :=
  broadcastTo_apply x h _ _ fun a => match a with | ⟨0, _⟩ => rfl | ⟨1, _⟩ => rfl | ⟨2, _⟩ => rfl | ⟨3, _⟩ => rfl

/-! ## Reductions of a group -/

theorem max_row (x : FVec Ideal S2x3584x64x128 .f32) (h hφ hacc) :
    multiReduction .maximumf [3] S2x3584x64 x 0xFF800000#32 h hφ hacc (ix3 b r n) = rowMax fun j => x (ix4 b r n j) := by
  rw [multiReduction_maximumf_eq_fold, h.fold_filter_drop_single]
  refine congrArg (fun f => Finset.fold max (lit 0xFF800000#32) f (Finset.univ : Finset (Fin 128))) ?_
  funext j
  refine congrArg x (funext fun a => ?_)
  match a with | ⟨0, _⟩ => rfl | ⟨1, _⟩ => rfl | ⟨2, _⟩ => rfl | ⟨3, _⟩ => rfl

theorem min_row (x : FVec Ideal S2x3584x64x128 .f32) (h hφ hacc) :
    multiReduction .minimumf [3] S2x3584x64 x 0x7F800000#32 h hφ hacc (ix3 b r n) = rowMin fun j => x (ix4 b r n j) := by
  rw [multiReduction_minimumf_eq_fold, h.fold_filter_drop_single]
  refine congrArg (fun f => Finset.fold min (lit 0x7F800000#32) f (Finset.univ : Finset (Fin 128))) ?_
  funext j
  refine congrArg x (funext fun a => ?_)
  match a with | ⟨0, _⟩ => rfl | ⟨1, _⟩ => rfl | ⟨2, _⟩ => rfl | ⟨3, _⟩ => rfl

/-! ## The named constants -/

theorem named_log2e : Named.named (F := Ideal) (φ := .f32) κ "log2_e" 0x3FB8AA3B#32 = log2e :=
  IdealRules.named_const.ideal_named_scalar _ _ _ _ rfl

theorem named_lnrange : Named.named (F := Ideal) (φ := .f32) κ "ln_range" 0x41243805#32 = lnrange :=
  IdealRules.named_const.ideal_named_scalar _ _ _ _ rfl

/-! ## The moments -/

theorem deq_apply (c : Vec Ideal S2x3584x8192 .fp8e4m3) (s k : Vec Ideal S2x3584x64 .f32) :
    k0_pay4 c s k (ix4 b r n j) = deqR (c (ix3 b r (col n j))) (s (ix3 b r n)) (k (ix3 b r n)) := by
  simp only [k0_pay4, select_at, mulf_at, subf_at, cmpf_at, extf_apply, bcast, divf_at, cast_in1, exp_at, log_at, absf_at, cast_in, broadcast_at]
  rfl

theorem grad_apply (g : Vec Ideal S2x3584x8192 .bf16) : k0_pay9 g (ix4 b r n j) = g (ix3 b r (col n j)) := by
  simp only [k0_pay9, extf_apply, cast_in]

theorem mom_apply (d : FVec Ideal S2x3584x64x128 .f32) (g : Vec Ideal S2x3584x8192 .bf16) :
    k0_pay10 d g (ix4 b r n j) = mNew (d (ix4 b r n j)) (g (ix3 b r (col n j))) := by
  simp only [k0_pay10, addf_at, mulf_at, grad_apply, broadcast_at]
  rfl

theorem vel_apply (c : Vec Ideal S2x3584x8192 .fp8e4m3) (s k : Vec Ideal S2x3584x64 .f32) (g : Vec Ideal S2x3584x8192 .bf16) :
    k0_pay11 (k0_pay5 s) (k0_pay6 c) (k0_pay7 k) (k0_pay8 c) g (ix4 b r n j)
      = vNew (deqR (c (ix3 b r (col n j))) (s (ix3 b r n)) (k (ix3 b r n))) (g (ix3 b r (col n j))) := by
  simp only [k0_pay11, k0_pay5, k0_pay6, k0_pay7, k0_pay8, select_at, mulf_at, addf_at, subf_at, cmpf_at, extf_apply, bcast, divf_at, cast_in1, exp_at, log_at, absf_at, cast_in, broadcast_at, grad_apply]
  rfl

/-! ## The update -/

theorem quot_apply (d : FVec Ideal S2x3584x64x128 .f32) (a e : FVec Ideal S2x3584x64x1 .f32) (cc l : FVec Ideal S2x3584x64x128 .f32)
    (g : Vec Ideal S2x3584x8192 .bf16) (bc1 bc2 eps : Vec Ideal S1x1x1x1 .f32) :
    k0_pay12 d a cc e l g bc1 bc2 eps (ix4 b r n j)
      = Ideal.div (k0_pay10 d g (ix4 b r n j) * bc1 (ix4 (0 : Fin 1) (0 : Fin 1) (0 : Fin 1) (0 : Fin 1)))
          (Ideal.sqrt (k0_pay11 a cc e l g (ix4 b r n j) * bc2 (ix4 (0 : Fin 1) (0 : Fin 1) (0 : Fin 1) (0 : Fin 1)))
            + eps (ix4 (0 : Fin 1) (0 : Fin 1) (0 : Fin 1) (0 : Fin 1))) := by
  simp only [k0_pay12, divf_at, mulf_at, addf_at, sqrt_at, bcast1, shapeCast_self]

theorem w_apply (w : Vec Ideal S2x3584x8192 .f32) : k0_pay13 w (ix4 b r n j) = w (ix3 b r (col n j)) := by
  rw [k0_pay13, cast_in]

theorem upd_apply (q : FVec Ideal S2x3584x64x128 .f32) (w : Vec Ideal S2x3584x8192 .f32) (lr wd : Vec Ideal S2x1x1x1 .f32) :
    k0_pay14 q w lr wd (ix4 b r n j)
      = (lit 0x00000000#32 - lr (ix4 b (0 : Fin 1) (0 : Fin 1) (0 : Fin 1)))
          * (q (ix4 b r n j) + wd (ix4 b (0 : Fin 1) (0 : Fin 1) (0 : Fin 1)) * w (ix3 b r (col n j))) := by
  simp only [k0_pay14, mulf_at, addf_at, bcast2, subf_at, shapeCast_self, broadcast_at, w_apply]
  rfl

theorem wnew_apply (q : FVec Ideal S2x3584x64x128 .f32) (w : Vec Ideal S2x3584x8192 .f32) (lr wd : Vec Ideal S2x1x1x1 .f32) :
    k0_pay15 q w lr wd (ix4 b r n j) = w (ix3 b r (col n j)) + k0_pay14 q w lr wd (ix4 b r n j) := by
  simp only [k0_pay15, addf_at, w_apply]

/-! ## The quantised groups: the first moment's operations -/

section quant

variable (x : FVec Ideal S2x3584x64x128 .f32)

theorem amax_apply : k0_pay17 x (ix4 b r n (0 : Fin 1)) = amax fun j => x (ix4 b r n j) := by
  rw [k0_pay17, cast_in1]
  exact max_row b r n _ _ _ _

theorem amin_apply : k0_pay18 x (ix4 b r n (0 : Fin 1)) = amin fun j => x (ix4 b r n j) := by
  rw [k0_pay18, cast_in1]
  exact min_row b r n _ _ _ _

theorem spread_apply : k0_pay19 x (ix4 b r n (0 : Fin 1)) = spread fun j => x (ix4 b r n j) := by
  simp only [k0_pay19, cmpf_at, amax_apply, amin_apply]
  rfl

theorem qk_apply : k0_pay21 (k0_pay19 x) (Scalar.ofBits .f32 0x40800000#32) (k0_pay20 x) (ix4 b r n (0 : Fin 1)) = qkR fun j => x (ix4 b r n j) := by
  simp only [k0_pay21, k0_pay20, select_at, minimumf_at, maximumf_at, divf_at, cmpf_at, log_at, broadcast_at, spread_apply, amax_apply, amin_apply, named_lnrange]
  rfl

theorem qs_apply : k0_pay22 (k0_pay17 x) (ix4 b r n (0 : Fin 1)) = qscale fun j => x (ix4 b r n j) := by
  simp only [k0_pay22, select_at, cmpf_at, broadcast_at, amax_apply]
  rfl

theorem qc_apply : k0_pay23 x (k0_pay16 x) (k0_pay17 x) (k0_pay19 x) (Scalar.ofBits .f32 0x40800000#32) (k0_pay20 x) (ix4 b r n j)
    = qcR (fun j => x (ix4 b r n j)) j := by
  simp only [k0_pay23, k0_pay16, truncf_at, select_at, subf_at, minimumf_at, mulf_at, exp_at, log_at, cmpf_at, bcast, broadcast_at, divf_at, qk_apply, qs_apply, absf_at]
  rfl

/-! ## The second moment's -/

theorem amaxV_apply : k0_pay25 x (ix4 b r n (0 : Fin 1)) = amax fun j => x (ix4 b r n j) := by
  rw [k0_pay25, cast_in1]
  exact max_row b r n _ _ _ _

theorem aminV_apply : k0_pay26 x (ix4 b r n (0 : Fin 1)) = amin fun j => x (ix4 b r n j) := by
  rw [k0_pay26, cast_in1]
  exact min_row b r n _ _ _ _

theorem spreadV_apply : k0_pay27 x (ix4 b r n (0 : Fin 1)) = spread fun j => x (ix4 b r n j) := by
  simp only [k0_pay27, cmpf_at, amaxV_apply, aminV_apply]
  rfl

theorem qkV_apply : k0_pay30 (k0_pay27 x) (k0_pay28 x) (k0_pay29 x) (Scalar.ofBits .f32 0x3F800000#32) (ix4 b r n (0 : Fin 1))
    = qkR fun j => x (ix4 b r n j) := by
  simp only [k0_pay30, k0_pay29, k0_pay28, select_at, minimumf_at, maximumf_at, divf_at, cmpf_at, log_at, broadcast_at, spreadV_apply, amaxV_apply, aminV_apply, named_lnrange]
  rfl

theorem qsV_apply : k0_pay31 (k0_pay25 x) (ix4 b r n (0 : Fin 1)) = qscale fun j => x (ix4 b r n j) := by
  simp only [k0_pay31, select_at, cmpf_at, broadcast_at, amaxV_apply]
  rfl

theorem qcV_apply : k0_pay32 x (k0_pay24 x) (k0_pay25 x) (k0_pay27 x) (k0_pay28 x) (k0_pay29 x) (Scalar.ofBits .f32 0x3F800000#32) (ix4 b r n j)
    = qcR (fun j => x (ix4 b r n j)) j := by
  simp only [k0_pay32, k0_pay24, truncf_at, select_at, subf_at, minimumf_at, mulf_at, exp_at, log_at, cmpf_at, bcast, broadcast_at, divf_at, qkV_apply, qsV_apply, absf_at]
  rfl

/-! ## The weights -/

theorem wtop_apply : k0_pay33 x (ix4 b r n (0 : Fin 1)) = wtop fun j => x (ix4 b r n j) := by
  simp only [k0_pay33, mulf_at, broadcast_at, cast_in1]
  exact congrArg (· * lit 0x3B124925#32) (max_row b r n _ _ _ _)

theorem we_apply : k0_pay36 (k0_pay33 x) (k0_pay34 x) k0_pay35 (ix4 b r n (0 : Fin 1)) = weR (wtop fun j => x (ix4 b r n j)) := by
  simp only [k0_pay36, k0_pay34, k0_pay35, select_at, cmpf_at, minimumf_at, addf_at, floor_at, mulf_at, log_at, broadcast_at, wtop_apply, named_log2e]
  rfl

theorem ws_apply : k0_pay37 (k0_pay33 x) (k0_pay34 x) k0_pay35 (ix4 b r n (0 : Fin 1)) = wsR fun j => x (ix4 b r n j) := by
  rw [k0_pay37, exp2_at, we_apply, wsR]

theorem wc_apply : k0_pay38 x (k0_pay33 x) (k0_pay34 x) k0_pay35 (ix4 b r n j) = wcR (fun j => x (ix4 b r n j)) j := by
  simp only [k0_pay38, truncf_at, minimumf_at, maximumf_at, mulf_at, bcast, exp2_at, subf_at, broadcast_at, we_apply]
  rfl

end quant

end Cert.ReferenceIdeal.Val
-- ==== Proof.RefRow.lean ====
/-
  What the reference computes, row by row: each of its ten results is the row's result of `Row`.
-/
module

public import proofs.«01_k».proof.Proof.RefValue

@[expose] public section

set_option maxRecDepth 16384

noncomputable section

namespace Cert.ReferenceIdeal.Val

open Cert.ReferenceIdeal Cert.ReferenceIdeal.Gen Cert.Spec Idealize.ShloMosaic Idealize.ShloMosaic.TcCoe Idealize.ShloMosaic.ValueIdx

variable (x0 : Vec Ideal S2x3584x8192 .f32) (x1 : Vec Ideal S2x3584x8192 .bf16) (x2 : Vec Ideal S2x3584x8192 .fp8e4m3)
  (x3 : Vec Ideal S2x3584x64 .f32) (x4 : Vec Ideal S2x3584x64 .f32) (x5 : Vec Ideal S2x3584x8192 .fp8e4m3)
  (x6 : Vec Ideal S2x3584x64 .f32) (x7 : Vec Ideal S2x3584x64 .f32) (x8 : Vec Ideal S2x1x1x1 .f32) (x9 : Vec Ideal S2x1x1x1 .f32)
  (x10 : Vec Ideal S1x1x1x1 .f32) (x11 : Vec Ideal S1x1x1x1 .f32) (x12 : Vec Ideal S1x1x1x1 .f32)

/-- Row `r` of weight array `b` among the reference's operands. -/
def rrow (b : Fin 2) (r : Fin 3584) : Row where
  w := fun q => x0 (ix3 b r q)
  g := fun q => x1 (ix3 b r q)
  mc := fun q => x2 (ix3 b r q)
  ms := fun n => x3 (ix3 b r n)
  me := fun n => x4 (ix3 b r n)
  vc := fun q => x5 (ix3 b r q)
  vs := fun n => x6 (ix3 b r n)
  ve := fun n => x7 (ix3 b r n)
  lr := x8 (ix4 b (0 : Fin 1) (0 : Fin 1) (0 : Fin 1))
  wd := x9 (ix4 b (0 : Fin 1) (0 : Fin 1) (0 : Fin 1))
  eps := x10 (ix4 (0 : Fin 1) (0 : Fin 1) (0 : Fin 1) (0 : Fin 1))
  bc1 := x11 (ix4 (0 : Fin 1) (0 : Fin 1) (0 : Fin 1) (0 : Fin 1))
  bc2 := x12 (ix4 (0 : Fin 1) (0 : Fin 1) (0 : Fin 1) (0 : Fin 1))

theorem ld_big {e : EltTy} (x : Vec Ideal S2x3584x8192 e) : View.ld x r0_0 = x := View.ld_unit_lit _ x (by decide)
theorem ld_small {e : EltTy} (x : Vec Ideal S2x3584x64 e) : View.ld x r0_1 = x := View.ld_unit_lit _ x (by decide)
theorem ld_one {e : EltTy} (x : Vec Ideal S1x1x1x1 e) : View.ld x r0_2 = x := View.ld_unit_lit _ x (by decide)
theorem ld_two {e : EltTy} (x : Vec Ideal S2x1x1x1 e) : View.ld x r0_3 = x := View.ld_unit_lit _ x (by decide)

theorem st_big {e : EltTy} (x : Vec Ideal S2x3584x8192 e) : (View.canon [⟨r0_0, x⟩] : Vec Ideal S2x3584x8192 e) = x :=
  View.canon_cons_unit_lit _ x [] (by decide)
theorem st_small {e : EltTy} (x : Vec Ideal S2x3584x64 e) : (View.canon [⟨r0_1, x⟩] : Vec Ideal S2x3584x64 e) = x :=
  View.canon_cons_unit_lit _ x [] (by decide)

variable (b : Fin 2) (r : Fin 3584) (n : Fin 64) (j : Fin 128)

/-- The new first moment. -/
theorem m_eq : k0_pay51 x0 x1 x2 x3 x4 x5 x6 x7 x8 x9 x10 x11 x12 (ix4 b r n j)
    = (rrow x0 x1 x2 x3 x4 x5 x6 x7 x8 x9 x10 x11 x12 b r).m n j := by
  rw [k0_pay51, k0_pay46, ld_big, ld_big, ld_small, ld_small, mom_apply, deq_apply]
  rfl

/-- The new second moment. -/
theorem v_eq : k0_pay52 x0 x1 x2 x3 x4 x5 x6 x7 x8 x9 x10 x11 x12 (ix4 b r n j)
    = (rrow x0 x1 x2 x3 x4 x5 x6 x7 x8 x9 x10 x11 x12 b r).v n j := by
  rw [k0_pay52, k0_pay47, k0_pay48, k0_pay49, k0_pay50, ld_big, ld_big, ld_small, ld_small, vel_apply]
  rfl

/-- The update. -/
theorem u_eq : k0_pay14 (k0_pay53 x0 x1 x2 x3 x4 x5 x6 x7 x8 x9 x10 x11 x12) (View.ld x0 r0_0) (View.ld x8 r0_3) (View.ld x9 r0_3) (ix4 b r n j)
    = (rrow x0 x1 x2 x3 x4 x5 x6 x7 x8 x9 x10 x11 x12 b r).u n j := by
  have hm := m_eq x0 x1 x2 x3 x4 x5 x6 x7 x8 x9 x10 x11 x12 b r n j
  have hv := v_eq x0 x1 x2 x3 x4 x5 x6 x7 x8 x9 x10 x11 x12 b r n j
  rw [k0_pay51] at hm
  rw [k0_pay52] at hv
  rw [upd_apply, k0_pay53, quot_apply, hm, hv, ld_one, ld_one, ld_one, ld_two, ld_two, ld_big]
  rfl

/-- The new weights. -/
theorem x_eq : k0_pay54 x0 x1 x2 x3 x4 x5 x6 x7 x8 x9 x10 x11 x12 (ix4 b r n j)
    = (rrow x0 x1 x2 x3 x4 x5 x6 x7 x8 x9 x10 x11 x12 b r).x n j := by
  rw [k0_pay54, wnew_apply, u_eq, ld_big]
  rfl

/-! ## The ten results -/

variable (q : Fin 8192)

theorem out13 : out0_13 x0 x1 x2 x3 x4 x5 x6 x7 x8 x9 x10 x11 x12 (ix3 b r q) = (rrow x0 x1 x2 x3 x4 x5 x6 x7 x8 x9 x10 x11 x12 b r).wn q := by
  rw [out0_13, st_big, k0_pay39, cast_out, x_eq, Row.wn]

theorem out14 : out0_14 x0 x1 x2 x3 x4 x5 x6 x7 x8 x9 x10 x11 x12 (ix3 b r q) = (rrow x0 x1 x2 x3 x4 x5 x6 x7 x8 x9 x10 x11 x12 b r).up q := by
  rw [out0_14, st_big, k0_pay40, cast_out, u_eq, Row.up]

theorem out15 : out0_15 x0 x1 x2 x3 x4 x5 x6 x7 x8 x9 x10 x11 x12 (ix3 b r q) = (rrow x0 x1 x2 x3 x4 x5 x6 x7 x8 x9 x10 x11 x12 b r).mco q := by
  rw [out0_15, st_big, k0_pay41, cast_out, k0_pay55, k0_pay56, k0_pay57, qc_apply, Row.mco]
  exact congrArg (fun f => qcR f (lane q)) (funext fun j => m_eq x0 x1 x2 x3 x4 x5 x6 x7 x8 x9 x10 x11 x12 b r (grp q) j)

theorem out16 : out0_16 x0 x1 x2 x3 x4 x5 x6 x7 x8 x9 x10 x11 x12 (ix3 b r n) = (rrow x0 x1 x2 x3 x4 x5 x6 x7 x8 x9 x10 x11 x12 b r).mso n := by
  rw [out0_16, st_small, k0_pay42, cast_out1, k0_pay55, qs_apply, Row.mso]
  exact congrArg qscale (funext fun j => m_eq x0 x1 x2 x3 x4 x5 x6 x7 x8 x9 x10 x11 x12 b r n j)

theorem out17 : out0_17 x0 x1 x2 x3 x4 x5 x6 x7 x8 x9 x10 x11 x12 (ix3 b r n) = (rrow x0 x1 x2 x3 x4 x5 x6 x7 x8 x9 x10 x11 x12 b r).mko n := by
  rw [out0_17, st_small, k0_pay43, cast_out1, k0_pay56, k0_pay57, qk_apply, Row.mko]
  exact congrArg qkR (funext fun j => m_eq x0 x1 x2 x3 x4 x5 x6 x7 x8 x9 x10 x11 x12 b r n j)

theorem out18 : out0_18 x0 x1 x2 x3 x4 x5 x6 x7 x8 x9 x10 x11 x12 (ix3 b r q) = (rrow x0 x1 x2 x3 x4 x5 x6 x7 x8 x9 x10 x11 x12 b r).vco q := by
  rw [out0_18, st_big, k0_pay44, cast_out, k0_pay58, k0_pay59, k0_pay60, k0_pay61, qcV_apply, Row.vco]
  exact congrArg (fun f => qcR f (lane q)) (funext fun j => v_eq x0 x1 x2 x3 x4 x5 x6 x7 x8 x9 x10 x11 x12 b r (grp q) j)

theorem out19 : out0_19 x0 x1 x2 x3 x4 x5 x6 x7 x8 x9 x10 x11 x12 (ix3 b r n) = (rrow x0 x1 x2 x3 x4 x5 x6 x7 x8 x9 x10 x11 x12 b r).vso n := by
  rw [out0_19, st_small, k0_pay45, cast_out1, k0_pay58, qsV_apply, Row.vso]
  exact congrArg qscale (funext fun j => v_eq x0 x1 x2 x3 x4 x5 x6 x7 x8 x9 x10 x11 x12 b r n j)

theorem out20 : out0_20 x0 x1 x2 x3 x4 x5 x6 x7 x8 x9 x10 x11 x12 (ix3 b r n) = (rrow x0 x1 x2 x3 x4 x5 x6 x7 x8 x9 x10 x11 x12 b r).vko n := by
  rw [out0_20, st_small, k0_pay1, cast_out1, k0_pay59, k0_pay60, k0_pay61, qkV_apply, Row.vko]
  exact congrArg qkR (funext fun j => v_eq x0 x1 x2 x3 x4 x5 x6 x7 x8 x9 x10 x11 x12 b r n j)

theorem out21 : out0_21 x0 x1 x2 x3 x4 x5 x6 x7 x8 x9 x10 x11 x12 (ix3 b r q) = (rrow x0 x1 x2 x3 x4 x5 x6 x7 x8 x9 x10 x11 x12 b r).wc q := by
  rw [out0_21, st_big, k0_pay2, cast_out, k0_pay62, k0_pay63, k0_pay64, wc_apply, Row.wc]
  exact congrArg (fun f => wcR f (lane q)) (funext fun j => x_eq x0 x1 x2 x3 x4 x5 x6 x7 x8 x9 x10 x11 x12 b r (grp q) j)

theorem out22 : out0_22 x0 x1 x2 x3 x4 x5 x6 x7 x8 x9 x10 x11 x12 (ix3 b r n) = (rrow x0 x1 x2 x3 x4 x5 x6 x7 x8 x9 x10 x11 x12 b r).ws n := by
  rw [out0_22, st_small, k0_pay3, cast_out1, k0_pay62, k0_pay63, k0_pay64, ws_apply, Row.ws]
  exact congrArg wsR (funext fun j => x_eq x0 x1 x2 x3 x4 x5 x6 x7 x8 x9 x10 x11 x12 b r n j)

end Cert.ReferenceIdeal.Val
-- ==== Proof.RefArray.lean ====
/-
  The arrays the reference leaves: every row holds the results of `Row` for that row of the arguments.
-/
module

public import proofs.«01_k».proof.Proof.RefRow
public import Idealize.ShloMosaic.Lib.Pipeline.ValueKit
public import Idealize.ShloMosaic.Lib.StableHlo.RunRead

@[expose] public section

set_option maxRecDepth 16384

noncomputable section

namespace Cert.ReferenceIdeal.Arr

open Cert.ReferenceIdeal Cert.ReferenceIdeal.Gen Cert.ReferenceIdeal.Val Cert.Spec
open Idealize.ShloMosaic Idealize.ShloMosaic.TcCoe

variable (m : (ℓ : Loc nD τ sig) → Buf (Elt Ideal) ℓ)

/-! ## The scalars -/

theorem host8 (c : Dev nD) : V m c main_v8 = shapeCast S2x1x1x1 (m ((c : Thread nD τ).loc main_arg8)) shapeCasts_S2_S2x1x1x1 := by
  after_reads_simp
  rfl

theorem host9 (c : Dev nD) : V m c main_v9 = shapeCast S2x1x1x1 (m ((c : Thread nD τ).loc main_arg9)) shapeCasts_S2_S2x1x1x1 := by
  after_reads_simp
  rfl

theorem host10 (c : Dev nD) : V m c main_v10 = shapeCast S1x1x1x1 (m ((c : Thread nD τ).loc main_arg10)) shapeCasts_S1_S1x1x1x1 := by
  after_reads_simp
  rfl

theorem host11 (c : Dev nD) : V m c main_v11
    = shapeCast S1x1x1x1 (bcorr 0x3F666666#32 shapeCasts_S1_S_ (m ((c : Thread nD τ).loc main_arg11))) shapeCasts_S_S1x1x1x1 := by
  after_reads_simp
  rfl

theorem host12 (c : Dev nD) : V m c main_v12
    = shapeCast S1x1x1x1 (bcorr 0x3F733333#32 shapeCasts_S1_S_ (m ((c : Thread nD τ).loc main_arg11))) shapeCasts_S_S1x1x1x1 := by
  after_reads_simp
  rfl

/-- Row `r` of weight array `b` among the reference's arguments on core `c`. -/
def arow' (c : Dev nD) (b : Fin 2) (r : Fin 3584) : Row :=
  arow (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    shapeCasts_S1_S_ b r

/-! ## The operands are whole arrays -/

theorem cast_two {α : Type} (x : S2.Idx → α) (h) (b : Fin 2) :
    shapeCast S2x1x1x1 x h (ix4 b (0 : Fin 1) (0 : Fin 1) (0 : Fin 1)) = x (ix1 b) :=
  shapeCast_apply x h _ _ (by
    rw [Shape.rowMajor_val_one, Shape.rowMajor_val_four]
    show b.val = ((b.val * 1 + 0) * 1 + 0) * 1 + 0
    omega)

theorem cast_one {α : Type} (x : S1.Idx → α) (h) :
    shapeCast S1x1x1x1 x h (ix4 (0 : Fin 1) (0 : Fin 1) (0 : Fin 1) (0 : Fin 1)) = x (ix1 (0 : Fin 1)) :=
  shapeCast_apply x h _ _ (by
    rw [Shape.rowMajor_val_one, Shape.rowMajor_val_four]
    rfl)

theorem idx : ∀ t : Fin cfg0.N,
    win0_0.index t = ![0, 0, 0] ∧
    win0_1.index t = ![0, 0, 0] ∧
    win0_2.index t = ![0, 0, 0] ∧
    win0_3.index t = ![0, 0, 0] ∧
    win0_4.index t = ![0, 0, 0] ∧
    win0_5.index t = ![0, 0, 0] ∧
    win0_6.index t = ![0, 0, 0] ∧
    win0_7.index t = ![0, 0, 0] ∧
    win0_8.index t = ![0, 0, 0, 0] ∧
    win0_9.index t = ![0, 0, 0, 0] ∧
    win0_10.index t = ![0, 0, 0, 0] ∧
    win0_11.index t = ![0, 0, 0, 0] ∧
    win0_12.index t = ![0, 0, 0, 0] ∧
    win0_13.index t = ![0, 0, 0] ∧
    win0_14.index t = ![0, 0, 0] ∧
    win0_15.index t = ![0, 0, 0] ∧
    win0_16.index t = ![0, 0, 0] ∧
    win0_17.index t = ![0, 0, 0] ∧
    win0_18.index t = ![0, 0, 0] ∧
    win0_19.index t = ![0, 0, 0] ∧
    win0_20.index t = ![0, 0, 0] ∧
    win0_21.index t = ![0, 0, 0] ∧
    win0_22.index t = ![0, 0, 0] :=
  (by decide +kernel : ∀ t : Fin grid0.N, _)

theorem in0 (c : Dev nD) (t : Fin cfg0.N) (b : Fin 2) (r : Fin 3584) (q : Fin 8192) :
    (iblk m c 0 t : FVec Ideal S2x3584x8192 .f32) (ix3 b r q) = (m ((c : Thread nD τ).loc main_arg0) : FVec Ideal S2x3584x8192 .f32) (ix3 b r q) := by
  refine Eq.trans ?_ (congrFun (V_main_arg0 m c) _)
  blk_ext [iblk, idx t]

theorem in1 (c : Dev nD) (t : Fin cfg0.N) (b : Fin 2) (r : Fin 3584) (q : Fin 8192) :
    (iblk m c 1 t : FVec Ideal S2x3584x8192 .bf16) (ix3 b r q) = (m ((c : Thread nD τ).loc main_arg1) : FVec Ideal S2x3584x8192 .bf16) (ix3 b r q) := by
  refine Eq.trans ?_ (congrFun (V_main_arg1 m c) _)
  blk_ext [iblk, idx t]

theorem in2 (c : Dev nD) (t : Fin cfg0.N) (b : Fin 2) (r : Fin 3584) (q : Fin 8192) :
    (iblk m c 2 t : FVec Ideal S2x3584x8192 .fp8e4m3) (ix3 b r q) = (m ((c : Thread nD τ).loc main_arg2) : FVec Ideal S2x3584x8192 .fp8e4m3) (ix3 b r q) := by
  refine Eq.trans ?_ (congrFun (V_main_arg2 m c) _)
  blk_ext [iblk, idx t]

theorem in3 (c : Dev nD) (t : Fin cfg0.N) (b : Fin 2) (r : Fin 3584) (q : Fin 64) :
    (iblk m c 3 t : FVec Ideal S2x3584x64 .f32) (ix3 b r q) = (m ((c : Thread nD τ).loc main_arg3) : FVec Ideal S2x3584x64 .f32) (ix3 b r q) := by
  refine Eq.trans ?_ (congrFun (V_main_arg3 m c) _)
  blk_ext [iblk, idx t]

theorem in4 (c : Dev nD) (t : Fin cfg0.N) (b : Fin 2) (r : Fin 3584) (q : Fin 64) :
    (iblk m c 4 t : FVec Ideal S2x3584x64 .f32) (ix3 b r q) = (m ((c : Thread nD τ).loc main_arg4) : FVec Ideal S2x3584x64 .f32) (ix3 b r q) := by
  refine Eq.trans ?_ (congrFun (V_main_arg4 m c) _)
  blk_ext [iblk, idx t]

theorem in5 (c : Dev nD) (t : Fin cfg0.N) (b : Fin 2) (r : Fin 3584) (q : Fin 8192) :
    (iblk m c 5 t : FVec Ideal S2x3584x8192 .fp8e4m3) (ix3 b r q) = (m ((c : Thread nD τ).loc main_arg5) : FVec Ideal S2x3584x8192 .fp8e4m3) (ix3 b r q) := by
  refine Eq.trans ?_ (congrFun (V_main_arg5 m c) _)
  blk_ext [iblk, idx t]

theorem in6 (c : Dev nD) (t : Fin cfg0.N) (b : Fin 2) (r : Fin 3584) (q : Fin 64) :
    (iblk m c 6 t : FVec Ideal S2x3584x64 .f32) (ix3 b r q) = (m ((c : Thread nD τ).loc main_arg6) : FVec Ideal S2x3584x64 .f32) (ix3 b r q) := by
  refine Eq.trans ?_ (congrFun (V_main_arg6 m c) _)
  blk_ext [iblk, idx t]

theorem in7 (c : Dev nD) (t : Fin cfg0.N) (b : Fin 2) (r : Fin 3584) (q : Fin 64) :
    (iblk m c 7 t : FVec Ideal S2x3584x64 .f32) (ix3 b r q) = (m ((c : Thread nD τ).loc main_arg7) : FVec Ideal S2x3584x64 .f32) (ix3 b r q) := by
  refine Eq.trans ?_ (congrFun (V_main_arg7 m c) _)
  blk_ext [iblk, idx t]

theorem in8 (c : Dev nD) (t : Fin cfg0.N) (b : Fin 2) :
    (iblk m c 8 t : FVec Ideal S2x1x1x1 .f32) (ix4 b (0 : Fin 1) (0 : Fin 1) (0 : Fin 1)) = (m ((c : Thread nD τ).loc main_arg8) : FVec Ideal S2 .f32) (ix1 b) := by
  have e : (iblk m c 8 t : FVec Ideal S2x1x1x1 .f32) (ix4 b (0 : Fin 1) (0 : Fin 1) (0 : Fin 1)) = (V m c main_v8 : FVec Ideal S2x1x1x1 .f32) (ix4 b (0 : Fin 1) (0 : Fin 1) (0 : Fin 1)) := by
    blk_ext [iblk, idx t]
  rw [e, host8]
  exact cast_two _ _ b

theorem in9 (c : Dev nD) (t : Fin cfg0.N) (b : Fin 2) :
    (iblk m c 9 t : FVec Ideal S2x1x1x1 .f32) (ix4 b (0 : Fin 1) (0 : Fin 1) (0 : Fin 1)) = (m ((c : Thread nD τ).loc main_arg9) : FVec Ideal S2 .f32) (ix1 b) := by
  have e : (iblk m c 9 t : FVec Ideal S2x1x1x1 .f32) (ix4 b (0 : Fin 1) (0 : Fin 1) (0 : Fin 1)) = (V m c main_v9 : FVec Ideal S2x1x1x1 .f32) (ix4 b (0 : Fin 1) (0 : Fin 1) (0 : Fin 1)) := by
    blk_ext [iblk, idx t]
  rw [e, host9]
  exact cast_two _ _ b

theorem in10 (c : Dev nD) (t : Fin cfg0.N) :
    (iblk m c 10 t : FVec Ideal S1x1x1x1 .f32) (ix4 (0 : Fin 1) (0 : Fin 1) (0 : Fin 1) (0 : Fin 1)) = (m ((c : Thread nD τ).loc main_arg10) : FVec Ideal S1 .f32) (ix1 (0 : Fin 1)) := by
  have e : (iblk m c 10 t : FVec Ideal S1x1x1x1 .f32) (ix4 (0 : Fin 1) (0 : Fin 1) (0 : Fin 1) (0 : Fin 1)) = (V m c main_v10 : FVec Ideal S1x1x1x1 .f32) (ix4 (0 : Fin 1) (0 : Fin 1) (0 : Fin 1) (0 : Fin 1)) := by
    blk_ext [iblk, idx t]
  rw [e, host10]
  exact cast_one _ _

theorem in11 (c : Dev nD) (t : Fin cfg0.N) :
    (iblk m c 11 t : FVec Ideal S1x1x1x1 .f32) (ix4 (0 : Fin 1) (0 : Fin 1) (0 : Fin 1) (0 : Fin 1)) = bcorr 0x3F666666#32 shapeCasts_S1_S_ (m ((c : Thread nD τ).loc main_arg11)) (fun a => a.elim0) := by
  have e : (iblk m c 11 t : FVec Ideal S1x1x1x1 .f32) (ix4 (0 : Fin 1) (0 : Fin 1) (0 : Fin 1) (0 : Fin 1)) = (V m c main_v11 : FVec Ideal S1x1x1x1 .f32) (ix4 (0 : Fin 1) (0 : Fin 1) (0 : Fin 1) (0 : Fin 1)) := by
    blk_ext [iblk, idx t]
  rw [e, host11]
  unfold shapeCast
  exact congrArg _ (funext fun a => a.elim0)

theorem in12 (c : Dev nD) (t : Fin cfg0.N) :
    (iblk m c 12 t : FVec Ideal S1x1x1x1 .f32) (ix4 (0 : Fin 1) (0 : Fin 1) (0 : Fin 1) (0 : Fin 1)) = bcorr 0x3F733333#32 shapeCasts_S1_S_ (m ((c : Thread nD τ).loc main_arg11)) (fun a => a.elim0) := by
  have e : (iblk m c 12 t : FVec Ideal S1x1x1x1 .f32) (ix4 (0 : Fin 1) (0 : Fin 1) (0 : Fin 1) (0 : Fin 1)) = (V m c main_v12 : FVec Ideal S1x1x1x1 .f32) (ix4 (0 : Fin 1) (0 : Fin 1) (0 : Fin 1) (0 : Fin 1)) := by
    blk_ext [iblk, idx t]
  rw [e, host12]
  unfold shapeCast
  exact congrArg _ (funext fun a => a.elim0)

/-- A row of the operands is that row of the arguments. -/
theorem row_eq (c : Dev nD) (t : Fin cfg0.N) (b : Fin 2) (r : Fin 3584) :
    rrow (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) b r = arow' m c b r := by
  unfold rrow arow' arow
  rw [Row.mk.injEq]
  exact ⟨funext fun q => in0 m c t b r q, funext fun q => in1 m c t b r q, funext fun q => in2 m c t b r q,
    funext fun q => in3 m c t b r q, funext fun q => in4 m c t b r q, funext fun q => in5 m c t b r q,
    funext fun q => in6 m c t b r q, funext fun q => in7 m c t b r q, in8 m c t b, in9 m c t b, in10 m c t, in11 m c t, in12 m c t⟩

/-! ## The ten results -/

theorem final13 (c : Dev nD) : (dats m 0 c).arrAt 13 cfg0.N
    = (fun j : S2x3584x8192.Idx => (arow' m c (j 0) (j 1)).wn (j 2)) := by
  refine (dats m 0 c).arrAt_eq_of_covers 13 _ (by decide +kernel) fun t hf y => ?_
  blk_simp
  rw [after0_13]
  have e : ((cfg0.win 13).blk t).view.emb y = (ix3 (y 0) (y 1) (y 2) : S2x3584x8192.Idx) := by
    blk_ext [idx t]
  have e' : y = (ix3 (y 0) (y 1) (y 2) : S2x3584x8192.Idx) := by blk_ext
  rw [e, e']
  refine (out13 _ _ _ _ _ _ _ _ _ _ _ _ _ (y 0) (y 1) (y 2)).trans ?_
  exact congrArg (fun R : Row => R.wn (y 2)) (row_eq m c t (y 0) (y 1))

theorem final14 (c : Dev nD) : (dats m 0 c).arrAt 14 cfg0.N
    = (fun j : S2x3584x8192.Idx => (arow' m c (j 0) (j 1)).up (j 2)) := by
  refine (dats m 0 c).arrAt_eq_of_covers 14 _ (by decide +kernel) fun t hf y => ?_
  blk_simp
  rw [after0_14]
  have e : ((cfg0.win 14).blk t).view.emb y = (ix3 (y 0) (y 1) (y 2) : S2x3584x8192.Idx) := by
    blk_ext [idx t]
  have e' : y = (ix3 (y 0) (y 1) (y 2) : S2x3584x8192.Idx) := by blk_ext
  rw [e, e']
  refine (out14 _ _ _ _ _ _ _ _ _ _ _ _ _ (y 0) (y 1) (y 2)).trans ?_
  exact congrArg (fun R : Row => R.up (y 2)) (row_eq m c t (y 0) (y 1))

theorem final15 (c : Dev nD) : (dats m 0 c).arrAt 15 cfg0.N
    = (fun j : S2x3584x8192.Idx => (arow' m c (j 0) (j 1)).mco (j 2)) := by
  refine (dats m 0 c).arrAt_eq_of_covers 15 _ (by decide +kernel) fun t hf y => ?_
  blk_simp
  rw [after0_15]
  have e : ((cfg0.win 15).blk t).view.emb y = (ix3 (y 0) (y 1) (y 2) : S2x3584x8192.Idx) := by
    blk_ext [idx t]
  have e' : y = (ix3 (y 0) (y 1) (y 2) : S2x3584x8192.Idx) := by blk_ext
  rw [e, e']
  refine (out15 _ _ _ _ _ _ _ _ _ _ _ _ _ (y 0) (y 1) (y 2)).trans ?_
  exact congrArg (fun R : Row => R.mco (y 2)) (row_eq m c t (y 0) (y 1))

theorem final16 (c : Dev nD) : (dats m 0 c).arrAt 16 cfg0.N
    = (fun j : S2x3584x64.Idx => (arow' m c (j 0) (j 1)).mso (j 2)) := by
  refine (dats m 0 c).arrAt_eq_of_covers 16 _ (by decide +kernel) fun t hf y => ?_
  blk_simp
  rw [after0_16]
  have e : ((cfg0.win 16).blk t).view.emb y = (ix3 (y 0) (y 1) (y 2) : S2x3584x64.Idx) := by
    blk_ext [idx t]
  have e' : y = (ix3 (y 0) (y 1) (y 2) : S2x3584x64.Idx) := by blk_ext
  rw [e, e']
  refine (out16 _ _ _ _ _ _ _ _ _ _ _ _ _ (y 0) (y 1) (y 2)).trans ?_
  exact congrArg (fun R : Row => R.mso (y 2)) (row_eq m c t (y 0) (y 1))

theorem final17 (c : Dev nD) : (dats m 0 c).arrAt 17 cfg0.N
    = (fun j : S2x3584x64.Idx => (arow' m c (j 0) (j 1)).mko (j 2)) := by
  refine (dats m 0 c).arrAt_eq_of_covers 17 _ (by decide +kernel) fun t hf y => ?_
  blk_simp
  rw [after0_17]
  have e : ((cfg0.win 17).blk t).view.emb y = (ix3 (y 0) (y 1) (y 2) : S2x3584x64.Idx) := by
    blk_ext [idx t]
  have e' : y = (ix3 (y 0) (y 1) (y 2) : S2x3584x64.Idx) := by blk_ext
  rw [e, e']
  refine (out17 _ _ _ _ _ _ _ _ _ _ _ _ _ (y 0) (y 1) (y 2)).trans ?_
  exact congrArg (fun R : Row => R.mko (y 2)) (row_eq m c t (y 0) (y 1))

theorem final18 (c : Dev nD) : (dats m 0 c).arrAt 18 cfg0.N
    = (fun j : S2x3584x8192.Idx => (arow' m c (j 0) (j 1)).vco (j 2)) := by
  refine (dats m 0 c).arrAt_eq_of_covers 18 _ (by decide +kernel) fun t hf y => ?_
  blk_simp
  rw [after0_18]
  have e : ((cfg0.win 18).blk t).view.emb y = (ix3 (y 0) (y 1) (y 2) : S2x3584x8192.Idx) := by
    blk_ext [idx t]
  have e' : y = (ix3 (y 0) (y 1) (y 2) : S2x3584x8192.Idx) := by blk_ext
  rw [e, e']
  refine (out18 _ _ _ _ _ _ _ _ _ _ _ _ _ (y 0) (y 1) (y 2)).trans ?_
  exact congrArg (fun R : Row => R.vco (y 2)) (row_eq m c t (y 0) (y 1))

theorem final19 (c : Dev nD) : (dats m 0 c).arrAt 19 cfg0.N
    = (fun j : S2x3584x64.Idx => (arow' m c (j 0) (j 1)).vso (j 2)) := by
  refine (dats m 0 c).arrAt_eq_of_covers 19 _ (by decide +kernel) fun t hf y => ?_
  blk_simp
  rw [after0_19]
  have e : ((cfg0.win 19).blk t).view.emb y = (ix3 (y 0) (y 1) (y 2) : S2x3584x64.Idx) := by
    blk_ext [idx t]
  have e' : y = (ix3 (y 0) (y 1) (y 2) : S2x3584x64.Idx) := by blk_ext
  rw [e, e']
  refine (out19 _ _ _ _ _ _ _ _ _ _ _ _ _ (y 0) (y 1) (y 2)).trans ?_
  exact congrArg (fun R : Row => R.vso (y 2)) (row_eq m c t (y 0) (y 1))

theorem final20 (c : Dev nD) : (dats m 0 c).arrAt 20 cfg0.N
    = (fun j : S2x3584x64.Idx => (arow' m c (j 0) (j 1)).vko (j 2)) := by
  refine (dats m 0 c).arrAt_eq_of_covers 20 _ (by decide +kernel) fun t hf y => ?_
  blk_simp
  rw [after0_20]
  have e : ((cfg0.win 20).blk t).view.emb y = (ix3 (y 0) (y 1) (y 2) : S2x3584x64.Idx) := by
    blk_ext [idx t]
  have e' : y = (ix3 (y 0) (y 1) (y 2) : S2x3584x64.Idx) := by blk_ext
  rw [e, e']
  refine (out20 _ _ _ _ _ _ _ _ _ _ _ _ _ (y 0) (y 1) (y 2)).trans ?_
  exact congrArg (fun R : Row => R.vko (y 2)) (row_eq m c t (y 0) (y 1))

theorem final21 (c : Dev nD) : (dats m 0 c).arrAt 21 cfg0.N
    = (fun j : S2x3584x8192.Idx => (arow' m c (j 0) (j 1)).wc (j 2)) := by
  refine (dats m 0 c).arrAt_eq_of_covers 21 _ (by decide +kernel) fun t hf y => ?_
  blk_simp
  rw [after0_21]
  have e : ((cfg0.win 21).blk t).view.emb y = (ix3 (y 0) (y 1) (y 2) : S2x3584x8192.Idx) := by
    blk_ext [idx t]
  have e' : y = (ix3 (y 0) (y 1) (y 2) : S2x3584x8192.Idx) := by blk_ext
  rw [e, e']
  refine (out21 _ _ _ _ _ _ _ _ _ _ _ _ _ (y 0) (y 1) (y 2)).trans ?_
  exact congrArg (fun R : Row => R.wc (y 2)) (row_eq m c t (y 0) (y 1))

theorem final22 (c : Dev nD) : (dats m 0 c).arrAt 22 cfg0.N
    = (fun j : S2x3584x64.Idx => (arow' m c (j 0) (j 1)).ws (j 2)) := by
  refine (dats m 0 c).arrAt_eq_of_covers 22 _ (by decide +kernel) fun t hf y => ?_
  blk_simp
  rw [after0_22]
  have e : ((cfg0.win 22).blk t).view.emb y = (ix3 (y 0) (y 1) (y 2) : S2x3584x64.Idx) := by
    blk_ext [idx t]
  have e' : y = (ix3 (y 0) (y 1) (y 2) : S2x3584x64.Idx) := by blk_ext
  rw [e, e']
  refine (out22 _ _ _ _ _ _ _ _ _ _ _ _ _ (y 0) (y 1) (y 2)).trans ?_
  exact congrArg (fun R : Row => R.ws (y 2)) (row_eq m c t (y 0) (y 1))

end Cert.ReferenceIdeal.Arr
-- ==== Proof.Equation.lean ====
/-
  The equation: from arguments that agree, the kernel and the reference leave equal arrays.
-/
module

public import proofs.«01_k».proof.Defs
public import proofs.«01_k».proof.Proof.KernelArray
public import proofs.«01_k».proof.Proof.RefArray
public import Idealize.ShloMosaic.Adequacy
public import Idealize.ShloMosaic.Init

@[expose] public section

noncomputable section

namespace Cert.Proof

open Idealize.ShloMosaic Idealize.ShloMosaic.TcCoe Idealize.SL.Sem

/-- Arguments that agree give equal rows. -/
theorem rows (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (b : Fin 2) (r : Fin 3584) : Cert.ReferenceIdeal.Arr.arow' m' c b r = Cert.KernelIdeal.Arr.krow m c b r := by
  obtain ⟨h0, h1, h2, h3, h4, h5, h6, h7, h8, h9, h10, h11⟩ := h
  unfold Cert.ReferenceIdeal.Arr.arow' Cert.KernelIdeal.Arr.krow
  rw [h0, h1, h2, h3, h4, h5, h6, h7, h8, h9, h10, h11]

set_option maxHeartbeats 4000000 in
/-- The kernel's arrays and the reference's are equal, all ten. -/
theorem algebraic : Cert.algebraic_KernelIdeal_ReferenceIdeal := by
  intro m ρ m' ρ' _ hagree
  refine ⟨_, _, _, _, _, _, _, _, _, _, Cert.KernelIdeal.Value.run_blocks (F := Ideal) m ρ, ?_⟩
  refine (θ_run Cert.ReferenceIdeal.defs _ _).mono (fun _ h c => ?_) (Cert.ReferenceIdeal.Value.run_blocks (F := Ideal) m' ρ')
  have R := rows m m' c (hagree c)
  obtain ⟨e0, e1, e2, e3, e4, e5, e6, e7, e8, e9, kept⟩ := h c
  refine ⟨e0.trans ?_, e1.trans ?_, e2.trans ?_, e3.trans ?_, e4.trans ?_, e5.trans ?_, e6.trans ?_, e7.trans ?_, e8.trans ?_, e9.trans ?_, kept⟩
  · refine (Cert.ReferenceIdeal.Arr.final13 m' c).trans (Eq.trans ?_ (Cert.KernelIdeal.Arr.final9 m c).symm)
    exact funext fun j => congrArg (fun Q : Cert.Spec.Row => Q.wn (j 2)) (R (j 0) (j 1))
  · refine (Cert.ReferenceIdeal.Arr.final14 m' c).trans (Eq.trans ?_ (Cert.KernelIdeal.Arr.final10 m c).symm)
    exact funext fun j => congrArg (fun Q : Cert.Spec.Row => Q.up (j 2)) (R (j 0) (j 1))
  · refine (Cert.ReferenceIdeal.Arr.final15 m' c).trans (Eq.trans ?_ (Cert.KernelIdeal.Arr.final11 m c).symm)
    exact funext fun j => congrArg (fun Q : Cert.Spec.Row => Q.mco (j 2)) (R (j 0) (j 1))
  · refine (Cert.ReferenceIdeal.Arr.final16 m' c).trans (Eq.trans ?_ (Cert.KernelIdeal.Arr.final12 m c).symm)
    exact funext fun j => congrArg (fun Q : Cert.Spec.Row => Q.mso (j 2)) (R (j 0) (j 1))
  · refine (Cert.ReferenceIdeal.Arr.final17 m' c).trans (Eq.trans ?_ (Cert.KernelIdeal.Arr.final13 m c).symm)
    exact funext fun j => congrArg (fun Q : Cert.Spec.Row => Q.mko (j 2)) (R (j 0) (j 1))
  · refine (Cert.ReferenceIdeal.Arr.final18 m' c).trans (Eq.trans ?_ (Cert.KernelIdeal.Arr.final14 m c).symm)
    exact funext fun j => congrArg (fun Q : Cert.Spec.Row => Q.vco (j 2)) (R (j 0) (j 1))
  · refine (Cert.ReferenceIdeal.Arr.final19 m' c).trans (Eq.trans ?_ (Cert.KernelIdeal.Arr.final15 m c).symm)
    exact funext fun j => congrArg (fun Q : Cert.Spec.Row => Q.vso (j 2)) (R (j 0) (j 1))
  · refine (Cert.ReferenceIdeal.Arr.final20 m' c).trans (Eq.trans ?_ (Cert.KernelIdeal.Arr.final16 m c).symm)
    exact funext fun j => congrArg (fun Q : Cert.Spec.Row => Q.vko (j 2)) (R (j 0) (j 1))
  · refine (Cert.ReferenceIdeal.Arr.final21 m' c).trans (Eq.trans ?_ (Cert.KernelIdeal.Arr.final17 m c).symm)
    exact funext fun j => congrArg (fun Q : Cert.Spec.Row => Q.wc (j 2)) (R (j 0) (j 1))
  · refine (Cert.ReferenceIdeal.Arr.final22 m' c).trans (Eq.trans ?_ (Cert.KernelIdeal.Arr.final18 m c).symm)
    exact funext fun j => congrArg (fun Q : Cert.Spec.Row => Q.ws (j 2)) (R (j 0) (j 1))

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Equation
public import Idealize.ShloMosaic.Adequacy
public import Idealize.ShloMosaic.Init

@[expose] public section

noncomputable section

namespace Cert.Proof

open Idealize.ShloMosaic Idealize.SL.Sem Cert.Kernel

theorem frame_p : Cert.quiescent_Kernel := fun m ρ _ => Cert.Kernel.Gen.frame m ρ

theorem frame_pi : Cert.quiescent_KernelIdeal := fun m ρ _ => Cert.KernelIdeal.Gen.frame m ρ

theorem frame_ri : Cert.quiescent_ReferenceIdeal := fun m ρ _ => Cert.ReferenceIdeal.Gen.frame m ρ

/-- The two named constants of the kernel denote the reals the table gives them. -/
theorem preserves : Cert.preserves_Kernel_KernelIdeal :=
  ⟨IdealRules.named_const.statement Cert.KernelIdeal.κ "log2_e" .f32 0x3FB8AA3B#32 (((Real.log 2)⁻¹ : ℝ) : EReal) rfl,
    IdealRules.named_const.statement Cert.KernelIdeal.κ "log2_range" .f32 0x416CEAED#32 (((Real.log 28672) * (Real.log 2)⁻¹ : ℝ) : EReal) rfl⟩

theorem claim : Cert.Claim :=
  ⟨Cert.Kernel.Gen.facts, Cert.KernelIdeal.Gen.facts, Cert.ReferenceIdeal.Gen.facts, frame_p, frame_pi, frame_ri, preserves, algebraic⟩

end Cert.Proof

end
